-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pages_not_empty [hPre_pages_not_empty : Cert.Pre_pages_not_empty.Facts] (m : (ℓ : Loc Cert.KernelIdeal.nD Cert.KernelIdeal.τ Cert.KernelIdeal.sig) → Buf (Elt Ideal) ℓ) : Prop :=
  ∀ c : Dev Cert.KernelIdeal.nD,
    (Cert.Pre_pages_not_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_not_empty [hPre_pages_not_empty : Cert.Pre_pages_not_empty.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_not_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_pages_not_empty [hKernelIdeal : Cert.KernelIdeal.Facts] [hPre_pages_not_empty : Cert.Pre_pages_not_empty.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pages_not_empty m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pages_not_empty [hReferenceIdeal : Cert.ReferenceIdeal.Facts] [hPre_pages_not_empty : Cert.Pre_pages_not_empty.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_not_empty m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_pages_not_empty [hKernelIdeal : Cert.KernelIdeal.Facts] [hReferenceIdeal : Cert.ReferenceIdeal.Facts] [hPre_pages_not_empty : Cert.Pre_pages_not_empty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pages_not_empty m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v20)) (v5 : (c : Dev Cert.KernelIdeal.nD) → Buf (Elt Ideal) ((c.tc : Thread Cert.KernelIdeal.nD Cert.KernelIdeal.τ).loc Cert.KernelIdeal.main_v21)) (v6 : (c : Dev Cert.KernelIdeal.nD) → Buf (Elt Ideal) ((c.tc : Thread Cert.KernelIdeal.nD Cert.KernelIdeal.τ).loc Cert.KernelIdeal.main_v15)) (v7 : (c : Dev Cert.KernelIdeal.nD) → Buf (Elt Ideal) ((c.tc : Thread Cert.KernelIdeal.nD Cert.KernelIdeal.τ).loc Cert.KernelIdeal.main_v22)) (v8 : (c : Dev Cert.KernelIdeal.nD) → Buf (Elt Ideal) ((c.tc : Thread Cert.KernelIdeal.nD Cert.KernelIdeal.τ).loc Cert.KernelIdeal.main_v23)) (v9 : (c : Dev Cert.KernelIdeal.nD) → Buf (Elt Ideal) ((c.tc : Thread Cert.KernelIdeal.nD Cert.KernelIdeal.τ).loc Cert.KernelIdeal.main_v24)) (v10 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v20) = v4 c
          ∧ r.2.mem ((c.tc : Thread Cert.KernelIdeal.nD Cert.KernelIdeal.τ).loc Cert.KernelIdeal.main_v21) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_v22) = v7 c
          ∧ r.2.mem ((c.tc : Thread Cert.KernelIdeal.nD Cert.KernelIdeal.τ).loc Cert.KernelIdeal.main_v23) = v8 c
          ∧ r.2.mem ((c.tc : Thread Cert.KernelIdeal.nD Cert.KernelIdeal.τ).loc Cert.KernelIdeal.main_v24) = v9 c
          ∧ r.2.mem ((c.tc : Thread Cert.KernelIdeal.nD Cert.KernelIdeal.τ).loc Cert.KernelIdeal.main_v25) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_v41) = v5 c
          ∧ r.2.mem ((c.tc : Thread Cert.ReferenceIdeal.nD Cert.ReferenceIdeal.τ).loc Cert.ReferenceIdeal.main_v138) = v6 c
          ∧ r.2.mem ((c.tc : Thread Cert.ReferenceIdeal.nD Cert.ReferenceIdeal.τ).loc Cert.ReferenceIdeal.main_v27) = v7 c
          ∧ r.2.mem ((c.tc : Thread Cert.ReferenceIdeal.nD Cert.ReferenceIdeal.τ).loc Cert.ReferenceIdeal.main_v20) = v8 c
          ∧ r.2.mem ((c.tc : Thread Cert.ReferenceIdeal.nD Cert.ReferenceIdeal.τ).loc Cert.ReferenceIdeal.main_v61) = v9 c
          ∧ r.2.mem ((c.tc : Thread Cert.ReferenceIdeal.nD Cert.ReferenceIdeal.τ).loc Cert.ReferenceIdeal.main_v54) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_pages_not_empty : Cert.Pre_pages_not_empty.Facts),
    quiescent_Kernel (hKernel := hKernel)
    ∧ quiescent_KernelIdeal (hKernelIdeal := hKernelIdeal)
    ∧ quiescent_KernelIdeal_pre_pages_not_empty (hKernelIdeal := hKernelIdeal) (hPre_pages_not_empty := hPre_pages_not_empty)
    ∧ quiescent_ReferenceIdeal (hReferenceIdeal := hReferenceIdeal)
    ∧ quiescent_ReferenceIdeal_pre_pages_not_empty (hReferenceIdeal := hReferenceIdeal) (hPre_pages_not_empty := hPre_pages_not_empty)
    ∧ preserves_Kernel_KernelIdeal
    ∧ algebraic_KernelIdeal_ReferenceIdeal_pre_pages_not_empty (hKernelIdeal := hKernelIdeal) (hReferenceIdeal := hReferenceIdeal) (hPre_pages_not_empty := hPre_pages_not_empty)
-- ==== Pre_pages_not_empty.lean ====
abbrev S6x24x2048 : Shape := ⟨3, ![6, 24, 2048]⟩
abbrev S2048 : Shape := ⟨1, ![2048]⟩
abbrev S2048x128 : Shape := ⟨2, ![2048, 128]⟩
abbrev S128 : Shape := ⟨1, ![128]⟩
abbrev S6 : Shape := ⟨1, ![6]⟩
abbrev S4096x4x1024 : Shape := ⟨3, ![4096, 4, 1024]⟩
abbrev S4096x1024 : Shape := ⟨2, ![4096, 1024]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S6x24x2048 .bf16) (main_arg1 : FVec F S2048 .f32) (main_arg2 : IVec S2048x128 8) (main_arg3 : FVec F S128 .f32) (main_arg4 : FVec F S128 .f32) (main_arg5 : FVec F S6 .f32) (main_arg6 : IVec S6 32) (main_arg7 : IVec S4096x4x1024 32) (main_arg8 : FVec F S4096x1024 .f32) (main_arg9 : IVec S4096 32) : IVec S4096 1 :=
  let main_c : IVec S_ 32 := constantI S_ 32 1#32
  let main_v0 : IVec S4096 32 := broadcastInDim S4096 ![] bcast_S_S4096 main_c
  let main_v1 : IVec S4096 1 := cmpi .sge main_arg9 main_v0
  main_v1
-- ==== Kernel.lean ====
abbrev S6x24x2048 : Shape := ⟨3, ![6, 24, 2048]⟩
abbrev S2048 : Shape := ⟨1, ![2048]⟩
abbrev S2048x128 : Shape := ⟨2, ![2048, 128]⟩
abbrev S128 : Shape := ⟨1, ![128]⟩
abbrev S6 : Shape := ⟨1, ![6]⟩
abbrev S4096x4x1024 : Shape := ⟨3, ![4096, 4, 1024]⟩
abbrev S4096x1024 : Shape := ⟨2, ![4096, 1024]⟩
abbrev S4096 : Shape := ⟨1, ![4096]⟩
abbrev S144x2048 : Shape := ⟨2, ![144, 2048]⟩
abbrev S1x2048 : Shape := ⟨2, ![1, 2048]⟩
abbrev S1x128 : Shape := ⟨2, ![1, 128]⟩
abbrev S144x1 : Shape := ⟨2, ![144, 1]⟩
abbrev S144x128 : Shape := ⟨2, ![144, 128]⟩
abbrev S144 : Shape := ⟨1, ![144]⟩
abbrev S24 : Shape := ⟨1, ![24]⟩
abbrev S1x24 : Shape := ⟨2, ![1, 24]⟩
abbrev S6x1 : Shape := ⟨2, ![6, 1]⟩
abbrev S6x24 : Shape := ⟨2, ![6, 24]⟩
abbrev S144x4096 : Shape := ⟨2, ![144, 4096]⟩
abbrev S128x4x1024 : Shape := ⟨3, ![128, 4, 1024]⟩
abbrev S128x1024 : Shape := ⟨2, ![128, 1024]⟩
abbrev S1x1024 : Shape := ⟨2, ![1, 1024]⟩
abbrev S1x4x1024 : Shape := ⟨3, ![1, 4, 1024]⟩
abbrev S4x1024 : Shape := ⟨2, ![4, 1024]⟩
abbrev S4x32x1024 : Shape := ⟨3, ![4, 32, 1024]⟩
abbrev S4x1x1024 : Shape := ⟨3, ![4, 1, 1024]⟩
abbrev S144x1024 : Shape := ⟨2, ![144, 1024]⟩
abbrev S1 : Shape := ⟨1, ![1]⟩
abbrev S6x24x4096 : Shape := ⟨3, ![6, 24, 4096]⟩
abbrev S6x4096 : Shape := ⟨2, ![6, 4096]⟩
abbrev S6x24x128 : Shape := ⟨3, ![6, 24, 128]⟩

abbrev nBuf : Space → Nat
  | .hbm => 43
  | .vmem => 27
  | .smem => 1
  | _ => 0

abbrev bufTy : (tb : Table) → Fin (tcTables nBuf tb) → BufTy
  | .hbm, ⟨0, _⟩ => ⟨S6x24x2048, .bf16⟩
  | .hbm, ⟨1, _⟩ => ⟨S2048, .f32⟩
  | .hbm, ⟨2, _⟩ => ⟨S2048x128, .i8⟩
  | .hbm, ⟨3, _⟩ => ⟨S128, .f32⟩
  | .hbm, ⟨4, _⟩ => ⟨S128, .f32⟩
  | .hbm, ⟨5, _⟩ => ⟨S6, .f32⟩
  | .hbm, ⟨6, _⟩ => ⟨S6, .i32⟩
  | .hbm, ⟨7, _⟩ => ⟨S4096x4x1024, .i32⟩
  | .hbm, ⟨8, _⟩ => ⟨S4096x1024, .f32⟩
  | .hbm, ⟨9, _⟩ => ⟨S144x2048, .bf16⟩
  | .hbm, ⟨10, _⟩ => ⟨S1x2048, .f32⟩
  | .hbm, ⟨11, _⟩ => ⟨S1x128, .f32⟩
  | .hbm, ⟨12, _⟩ => ⟨S1x128, .f32⟩
  | .hbm, ⟨13, _⟩ => ⟨S144x2048, .i8⟩
  | .hbm, ⟨14, _⟩ => ⟨S144x1, .f32⟩
  | .hbm, ⟨15, _⟩ => ⟨S144x128, .f32⟩
  | .hbm, ⟨16, _⟩ => ⟨S144x128, .f32⟩
  | .hbm, ⟨17, _⟩ => ⟨S144x128, .i8⟩
  | .hbm, ⟨18, _⟩ => ⟨S144x1, .f32⟩
  | .hbm, ⟨19, _⟩ => ⟨S24, .i32⟩
  | .hbm, ⟨20, _⟩ => ⟨S1x24, .i32⟩
  | .hbm, ⟨21, _⟩ => ⟨S6x1, .i32⟩
  | .hbm, ⟨22, _⟩ => ⟨S6x24, .i32⟩
  | .hbm, ⟨23, _⟩ => ⟨S6x24, .i32⟩
  | .hbm, ⟨24, _⟩ => ⟨S6x24, .i1⟩
  | .hbm, ⟨25, _⟩ => ⟨S6x24, .i32⟩
  | .hbm, ⟨26, _⟩ => ⟨S144x1, .i32⟩
  | .hbm, ⟨27, _⟩ => ⟨S144x4096, .f32⟩
  | .hbm, ⟨28, _⟩ => ⟨S144x4096, .f32⟩
  | .hbm, ⟨29, _⟩ => ⟨S6x24x4096, .f32⟩
  | .hbm, ⟨30, _⟩ => ⟨S6x24x4096, .f32⟩
  | .hbm, ⟨31, _⟩ => ⟨S6x1, .f32⟩
  | .hbm, ⟨32, _⟩ => ⟨S6x4096, .f32⟩
  | .hbm, ⟨33, _⟩ => ⟨S6x1, .f32⟩
  | .hbm, ⟨34, _⟩ => ⟨S6x1, .f32⟩
  | .hbm, ⟨35, _⟩ => ⟨S6, .f32⟩
  | .hbm, ⟨36, _⟩ => ⟨S6, .f32⟩
  | .hbm, ⟨37, _⟩ => ⟨S6x24x128, .f32⟩
  | .hbm, ⟨38, _⟩ => ⟨S6x24x128, .f32⟩
  | .hbm, ⟨39, _⟩ => ⟨S6x24x2048, .i8⟩
  | .hbm, ⟨40, _⟩ => ⟨S6x24, .f32⟩
  | .hbm, ⟨41, _⟩ => ⟨S6x24x128, .i8⟩
  | .hbm, ⟨42, _⟩ => ⟨S6x24, .f32⟩
  | .local _ .vmem, ⟨0, _⟩ => ⟨S144x2048, .bf16⟩
  | .local _ .vmem, ⟨1, _⟩ => ⟨S1x2048, .f32⟩
  | .local _ .vmem, ⟨2, _⟩ => ⟨S2048x128, .i8⟩
  | .local _ .vmem, ⟨3, _⟩ => ⟨S1x128, .f32⟩
  | .local _ .vmem, ⟨4, _⟩ => ⟨S1x128, .f32⟩
  | .local _ .vmem, ⟨5, _⟩ => ⟨S144x2048, .i8⟩
  | .local _ .vmem, ⟨6, _⟩ => ⟨S144x1, .f32⟩
  | .local _ .vmem, ⟨7, _⟩ => ⟨S144x128, .f32⟩
  | .local _ .vmem, ⟨8, _⟩ => ⟨S144x128, .f32⟩
  | .local _ .vmem, ⟨9, _⟩ => ⟨S144x128, .i8⟩
  | .local _ .vmem, ⟨10, _⟩ => ⟨S144x1, .f32⟩
  | .local _ .vmem, ⟨11, _⟩ => ⟨S144x128, .i8⟩
  | .local _ .vmem, ⟨12, _⟩ => ⟨S144x1, .f32⟩
  | .local _ .vmem, ⟨13, _⟩ => ⟨S144x1, .i32⟩
  | .local _ .vmem, ⟨14, _⟩ => ⟨S128x4x1024, .i32⟩
  | .local _ .vmem, ⟨15, _⟩ => ⟨S128x4x1024, .i32⟩
  | .local _ .vmem, ⟨16, _⟩ => ⟨S128x1024, .f32⟩
  | .local _ .vmem, ⟨17, _⟩ => ⟨S128x1024, .f32⟩
  | .local _ .vmem, ⟨18, _⟩ => ⟨S144x128, .f32⟩
  | .local _ .vmem, ⟨19, _⟩ => ⟨S144x128, .f32⟩
  | .local _ .vmem, ⟨20, _⟩ => ⟨S144x128, .f32⟩
  | .local _ .vmem, ⟨21, _⟩ => ⟨S144x128, .f32⟩
  | .local _ .vmem, ⟨22, _⟩ => ⟨S6x24x4096, .f32⟩
  | .local _ .vmem, ⟨23, _⟩ => ⟨S6x1, .f32⟩
  | .local _ .vmem, ⟨24, _⟩ => ⟨S6x4096, .f32⟩
  | .local _ .vmem, ⟨25, _⟩ => ⟨S6x1, .f32⟩
  | .local _ .vmem, ⟨26, _⟩ => ⟨S6x1, .f32⟩
  | .local _ .smem, ⟨0, _⟩ => ⟨S4096, .i32⟩
  | _, _ => ⟨S6x24x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_arg9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26

abbrev nD : Nat := 1
abbrev τ : Topo := Topo.v7x

variable {F : FTy → Type} [FloatOps F]

abbrev grid0 : Pipeline.Grid := .none

abbrev stage0_0 : Fin 1 → Memref sig .tc .vmem S144x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S144x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S144x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S144x128 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S144x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![32], ![false]⟩

abbrev pre1 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c128_i32_1 : BitVec 32 := 128#32
  let v7 : BitVec 32 := Scalar.addi c0_i32 c128_i32_1
  let c1_i32 : BitVec 32 := 1#32
  ⟨c0_i32, v7, c1_i32⟩
def k1_off1 (k1_t1 : Fin k1_t1_loop.trips) : Fin 3 → Nat :=
  let c0_i32 : BitVec 32 := 0#32
  let c1_i32 : BitVec 32 := 1#32
  let arg9 : BitVec 32 := Scf.iv c0_i32 c1_i32 k1_t1
  let v31 : Index := Scalar.indexCast arg9
  let c0_16 : Index := 0#32
  let c0_17 : Index := 0#32
  ![v31.toNat, 0, 0]
def k1_off2 (k1_t1 : Fin k1_t1_loop.trips) : Fin 2 → Nat :=
  let c0_i32 : BitVec 32 := 0#32
  let c1_i32 : BitVec 32 := 1#32
  let arg9 : BitVec 32 := Scf.iv c0_i32 c1_i32 k1_t1
  let v48 : Index := Scalar.indexCast arg9
  let c0_19 : Index := 0#32
  ![v48.toNat, 0]
def k1_off3 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg9 : BitVec 32 := Scf.iv c0_i32 c1_i32 k1_t1
  let v52 : BitVec 32 := Scalar.addi v0 arg9
  let v53 : Index := Scalar.indexCast v52
  ![v53.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S144x128 .i8 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S144x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S144x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S144x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S144x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S6x24x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S6x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S6x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S6x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S6x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
-- ==== ReferenceIdeal.lean ====
abbrev S6x24x2048 : Shape := ⟨3, ![6, 24, 2048]⟩
abbrev S2048 : Shape := ⟨1, ![2048]⟩
abbrev S2048x128 : Shape := ⟨2, ![2048, 128]⟩
abbrev S128 : Shape := ⟨1, ![128]⟩
abbrev S6 : Shape := ⟨1, ![6]⟩
abbrev S4096x4x1024 : Shape := ⟨3, ![4096, 4, 1024]⟩
abbrev S4096x1024 : Shape := ⟨2, ![4096, 1024]⟩
abbrev S4096 : Shape := ⟨1, ![4096]⟩
abbrev S1x1x2048 : Shape := ⟨3, ![1, 1, 2048]⟩
abbrev S_ : Shape := ⟨0, ![]⟩
abbrev S6x24 : Shape := ⟨2, ![6, 24]⟩
abbrev S6x24x1 : Shape := ⟨3, ![6, 24, 1]⟩
abbrev S6x24x128 : Shape := ⟨3, ![6, 24, 128]⟩
abbrev S1x1x128 : Shape := ⟨3, ![1, 1, 128]⟩
abbrev S144x128 : Shape := ⟨2, ![144, 128]⟩
abbrev S4096x4x1 : Shape := ⟨3, ![4096, 4, 1]⟩
abbrev S4096x4 : Shape := ⟨2, ![4096, 4]⟩
abbrev S4096x1 : Shape := ⟨2, ![4096, 1]⟩
abbrev S4x4096 : Shape := ⟨2, ![4, 4096]⟩
abbrev S1x4x4096 : Shape := ⟨3, ![1, 4, 4096]⟩
abbrev S32 : Shape := ⟨1, ![32]⟩
abbrev S32x1 : Shape := ⟨2, ![32, 1]⟩
abbrev S1x4x1x4096 : Shape := ⟨4, ![1, 4, 1, 4096]⟩
abbrev S1x1x32x1 : Shape := ⟨4, ![1, 1, 32, 1]⟩
abbrev S1x4x32x4096 : Shape := ⟨4, ![1, 4, 32, 4096]⟩
abbrev S1x128x4096 : Shape := ⟨3, ![1, 128, 4096]⟩
abbrev S128x4096 : Shape := ⟨2, ![128, 4096]⟩
abbrev S144x4096 : Shape := ⟨2, ![144, 4096]⟩
abbrev S1x4096 : Shape := ⟨2, ![1, 4096]⟩
abbrev S6x24x4096 : Shape := ⟨3, ![6, 24, 4096]⟩
abbrev S1024 : Shape := ⟨1, ![1024]⟩
abbrev S1x1024 : Shape := ⟨2, ![1, 1024]⟩
abbrev S4096x1x1024 : Shape := ⟨3, ![4096, 1, 1024]⟩
abbrev S4096x144x128 : Shape := ⟨3, ![4096, 144, 128]⟩
abbrev S4096x4x1x1024 : Shape := ⟨4, ![4096, 4, 1, 1024]⟩
abbrev S4096x4x32x1024 : Shape := ⟨4, ![4096, 4, 32, 1024]⟩
abbrev S4096x128x1024 : Shape := ⟨3, ![4096, 128, 1024]⟩
abbrev S4096x144x1024 : Shape := ⟨3, ![4096, 144, 1024]⟩
abbrev S4096x144 : Shape := ⟨2, ![4096, 144]⟩
abbrev S24 : Shape := ⟨1, ![24]⟩
abbrev S6x1 : Shape := ⟨2, ![6, 1]⟩
abbrev S1x24 : Shape := ⟨2, ![1, 24]⟩
abbrev S6x4096 : Shape := ⟨2, ![6, 4096]⟩

abbrev nBuf : Space → Nat
  | .hbm => 223
  | .vmem => 0
  | .smem => 0
  | _ => 0

abbrev hbmTy0_0 (i : Nat) : BufTy := match i % 128 with
  | 0 => ⟨S6x24x2048, .bf16⟩
  | 1 => ⟨S2048, .f32⟩
  | 2 => ⟨S2048x128, .i8⟩
  | 3 => ⟨S128, .f32⟩
  | 4 => ⟨S128, .f32⟩
  | 5 => ⟨S6, .f32⟩
  | 6 => ⟨S6, .i32⟩
  | 7 => ⟨S4096x4x1024, .i32⟩
  | 8 => ⟨S4096x1024, .f32⟩
  | 9 => ⟨S4096, .i32⟩
  | 10 => ⟨S6x24x2048, .f32⟩
  | 11 => ⟨S1x1x2048, .f32⟩
  | 12 => ⟨S6x24x2048, .f32⟩
  | 13 => ⟨S6x24x2048, .f32⟩
  | 14 => ⟨S6x24x2048, .f32⟩
  | 15 => ⟨S_, .f32⟩
  | 16 => ⟨S6x24, .f32⟩
  | 17 => ⟨S6x24x1, .f32⟩
  | 18 => ⟨S_, .f32⟩
  | 19 => ⟨S6x24x1, .f32⟩
  | 20 => ⟨S6x24x1, .f32⟩
  | 21 => ⟨S_, .f32⟩
  | 22 => ⟨S6x24x1, .f32⟩
  | 23 => ⟨S6x24x1, .f32⟩
  | 24 => ⟨S6x24x1, .f32⟩
  | 25 => ⟨S6x24x2048, .f32⟩
  | 26 => ⟨S6x24x2048, .f32⟩
  | 27 => ⟨S6x24x2048, .f32⟩
  | 28 => ⟨S_, .f32⟩
  | 29 => ⟨S6x24, .f32⟩
  | 30 => ⟨S_, .f32⟩
  | 31 => ⟨S6x24, .f32⟩
  | 32 => ⟨S6x24, .i1⟩
  | 33 => ⟨S_, .f32⟩
  | 34 => ⟨S6x24, .f32⟩
  | 35 => ⟨S6x24, .f32⟩
  | 36 => ⟨S_, .f32⟩
  | 37 => ⟨S_, .f32⟩
  | 38 => ⟨S6x24, .f32⟩
  | 39 => ⟨S6x24, .f32⟩
  | 40 => ⟨S6x24x1, .f32⟩
  | 41 => ⟨S6x24x2048, .f32⟩
  | 42 => ⟨S6x24x2048, .f32⟩
  | 43 => ⟨S6x24x2048, .f32⟩
  | 44 => ⟨S_, .f32⟩
  | 45 => ⟨S_, .f32⟩
  | 46 => ⟨S_, .f32⟩
  | 47 => ⟨S6x24x2048, .f32⟩
  | 48 => ⟨S6x24x2048, .f32⟩
  | 49 => ⟨S_, .f32⟩
  | 50 => ⟨S6x24x2048, .f32⟩
  | 51 => ⟨S6x24x2048, .f32⟩
  | 52 => ⟨S6x24x2048, .i32⟩
  | 53 => ⟨S6x24x2048, .i8⟩
  | 54 => ⟨S6x24x2048, .i32⟩
  | 55 => ⟨S6x24x2048, .bf16⟩
  | 56 => ⟨S2048x128, .i32⟩
  | 57 => ⟨S2048x128, .bf16⟩
  | 58 => ⟨S6x24x128, .f32⟩
  | 59 => ⟨S6x24x1, .f32⟩
  | 60 => ⟨S6x24x128, .f32⟩
  | 61 => ⟨S6x24x128, .f32⟩
  | 62 => ⟨S1x1x128, .f32⟩
  | 63 => ⟨S6x24x128, .f32⟩
  | 64 => ⟨S6x24x128, .f32⟩
  | 65 => ⟨S1x1x128, .f32⟩
  | 66 => ⟨S6x24x128, .f32⟩
  | 67 => ⟨S6x24x128, .f32⟩
  | 68 => ⟨S6x24x128, .f32⟩
  | 69 => ⟨S_, .f32⟩
  | 70 => ⟨S6x24, .f32⟩
  | 71 => ⟨S6x24x1, .f32⟩
  | 72 => ⟨S6x24x1, .f32⟩
  | 73 => ⟨S6x24x128, .f32⟩
  | 74 => ⟨S6x24x128, .f32⟩
  | 75 => ⟨S6x24x128, .f32⟩
  | 76 => ⟨S_, .f32⟩
  | 77 => ⟨S6x24, .f32⟩
  | 78 => ⟨S_, .f32⟩
  | 79 => ⟨S6x24, .f32⟩
  | 80 => ⟨S6x24, .i1⟩
  | 81 => ⟨S_, .f32⟩
  | 82 => ⟨S6x24, .f32⟩
  | 83 => ⟨S6x24, .f32⟩
  | 84 => ⟨S_, .f32⟩
  | 85 => ⟨S_, .f32⟩
  | 86 => ⟨S6x24, .f32⟩
  | 87 => ⟨S6x24, .f32⟩
  | 88 => ⟨S6x24x1, .f32⟩
  | 89 => ⟨S6x24x128, .f32⟩
  | 90 => ⟨S6x24x128, .f32⟩
  | 91 => ⟨S6x24x128, .f32⟩
  | 92 => ⟨S_, .f32⟩
  | 93 => ⟨S_, .f32⟩
  | 94 => ⟨S_, .f32⟩
  | 95 => ⟨S6x24x128, .f32⟩
  | 96 => ⟨S6x24x128, .f32⟩
  | 97 => ⟨S_, .f32⟩
  | 98 => ⟨S6x24x128, .f32⟩
  | 99 => ⟨S6x24x128, .f32⟩
  | 100 => ⟨S6x24x128, .i32⟩
  | 101 => ⟨S6x24x128, .i8⟩
  | 102 => ⟨S6x24x128, .i32⟩
  | 103 => ⟨S6x24x128, .bf16⟩
  | 104 => ⟨S144x128, .bf16⟩
  | 105 => ⟨S4096x4x1, .i32⟩
  | 106 => ⟨S4096x4, .i32⟩
  | 107 => ⟨S4096x1, .f32⟩
  | 108 => ⟨S4096, .f32⟩
  | 109 => ⟨S4x4096, .i32⟩
  | 110 => ⟨S1x4x4096, .i32⟩
  | 111 => ⟨S32, .i32⟩
  | 112 => ⟨S32x1, .i32⟩
  | 113 => ⟨S1x4x1x4096, .i32⟩
  | 114 => ⟨S1x1x32x1, .i32⟩
  | 115 => ⟨S1x4x32x4096, .i32⟩
  | 116 => ⟨S1x4x32x4096, .i32⟩
  | 117 => ⟨S1x4x32x4096, .i32⟩
  | 118 => ⟨S_, .i32⟩
  | 119 => ⟨S1x4x32x4096, .i32⟩
  | 120 => ⟨S1x4x32x4096, .i32⟩
  | 121 => ⟨S_, .i32⟩
  | 122 => ⟨S1x4x32x4096, .i32⟩
  | 123 => ⟨S1x4x32x4096, .i1⟩
  | 124 => ⟨S_, .f32⟩
  | 125 => ⟨S_, .f32⟩
  | 126 => ⟨S1x4x32x4096, .f32⟩
  | 127 => ⟨S1x4x32x4096, .f32⟩
  | _ => ⟨S6x24x2048, .bf16⟩

abbrev hbmTy0_1 (i : Nat) : BufTy := match i % 128 with
  | 0 => ⟨S1x4x32x4096, .f32⟩
  | 1 => ⟨S1x4x32x4096, .bf16⟩
  | 2 => ⟨S1x128x4096, .bf16⟩
  | 3 => ⟨S128x4096, .bf16⟩
  | 4 => ⟨S144x4096, .f32⟩
  | 5 => ⟨S1x4096, .f32⟩
  | 6 => ⟨S144x4096, .f32⟩
  | 7 => ⟨S144x4096, .f32⟩
  | 8 => ⟨S6x24x4096, .f32⟩
  | 9 => ⟨S1024, .i32⟩
  | 10 => ⟨S4096x1, .i32⟩
  | 11 => ⟨S1x1024, .i32⟩
  | 12 => ⟨S4096x1024, .i32⟩
  | 13 => ⟨S4096x1024, .i32⟩
  | 14 => ⟨S4096x1024, .i1⟩
  | 15 => ⟨S4096x1x1024, .i1⟩
  | 16 => ⟨S4096x4x1, .i32⟩
  | 17 => ⟨S4096x4x1024, .i1⟩
  | 18 => ⟨S4096x4x1024, .i32⟩
  | 19 => ⟨S4096x4x1024, .i32⟩
  | 20 => ⟨S4096x1, .f32⟩
  | 21 => ⟨S4096x1024, .f32⟩
  | 22 => ⟨S4096x1024, .f32⟩
  | 23 => ⟨S4096x144x128, .bf16⟩
  | 24 => ⟨S32, .i32⟩
  | 25 => ⟨S32x1, .i32⟩
  | 26 => ⟨S4096x4x1x1024, .i32⟩
  | 27 => ⟨S1x1x32x1, .i32⟩
  | 28 => ⟨S4096x4x32x1024, .i32⟩
  | 29 => ⟨S4096x4x32x1024, .i32⟩
  | 30 => ⟨S4096x4x32x1024, .i32⟩
  | 31 => ⟨S_, .i32⟩
  | 32 => ⟨S4096x4x32x1024, .i32⟩
  | 33 => ⟨S4096x4x32x1024, .i32⟩
  | 34 => ⟨S_, .i32⟩
  | 35 => ⟨S4096x4x32x1024, .i32⟩
  | 36 => ⟨S4096x4x32x1024, .i1⟩
  | 37 => ⟨S_, .f32⟩
  | 38 => ⟨S_, .f32⟩
  | 39 => ⟨S4096x4x32x1024, .f32⟩
  | 40 => ⟨S4096x4x32x1024, .f32⟩
  | 41 => ⟨S4096x4x32x1024, .f32⟩
  | 42 => ⟨S4096x4x32x1024, .bf16⟩
  | 43 => ⟨S4096x128x1024, .bf16⟩
  | 44 => ⟨S4096x144x1024, .f32⟩
  | 45 => ⟨S4096x1x1024, .f32⟩
  | 46 => ⟨S4096x144x1024, .f32⟩
  | 47 => ⟨S4096x144x1024, .f32⟩
  | 48 => ⟨S_, .f32⟩
  | 49 => ⟨S4096x144, .f32⟩
  | 50 => ⟨S144x4096, .f32⟩
  | 51 => ⟨S6x24x4096, .f32⟩
  | 52 => ⟨S24, .i32⟩
  | 53 => ⟨S6x1, .i32⟩
  | 54 => ⟨S1x24, .i32⟩
  | 55 => ⟨S6x24, .i32⟩
  | 56 => ⟨S6x24, .i32⟩
  | 57 => ⟨S6x24, .i1⟩
  | 58 => ⟨S6x24x1, .i1⟩
  | 59 => ⟨S6x24x1, .f32⟩
  | 60 => ⟨S6x24x4096, .f32⟩
  | 61 => ⟨S6x24x4096, .f32⟩
  | 62 => ⟨S_, .f32⟩
  | 63 => ⟨S_, .f32⟩
  | 64 => ⟨S6x24x4096, .i1⟩
  | 65 => ⟨S6x24x4096, .f32⟩
  | 66 => ⟨S6x24x4096, .f32⟩
  | 67 => ⟨S6x24x1, .f32⟩
  | 68 => ⟨S6x24x4096, .f32⟩
  | 69 => ⟨S6x24x4096, .f32⟩
  | 70 => ⟨S_, .f32⟩
  | 71 => ⟨S_, .f32⟩
  | 72 => ⟨S6x24x4096, .i1⟩
  | 73 => ⟨S6x24x4096, .f32⟩
  | 74 => ⟨S6x24x4096, .f32⟩
  | 75 => ⟨S_, .f32⟩
  | 76 => ⟨S6x4096, .f32⟩
  | 77 => ⟨S_, .f32⟩
  | 78 => ⟨S6, .f32⟩
  | 79 => ⟨S_, .f32⟩
  | 80 => ⟨S6, .f32⟩
  | 81 => ⟨S6, .f32⟩
  | 82 => ⟨S6x1, .f32⟩
  | 83 => ⟨S6x4096, .f32⟩
  | 84 => ⟨S6x4096, .f32⟩
  | 85 => ⟨S_, .f32⟩
  | 86 => ⟨S6, .f32⟩
  | 87 => ⟨S6x1, .f32⟩
  | 88 => ⟨S6x4096, .f32⟩
  | 89 => ⟨S6x4096, .f32⟩
  | 90 => ⟨S6x4096, .f32⟩
  | 91 => ⟨S_, .f32⟩
  | 92 => ⟨S6, .f32⟩
  | 93 => ⟨S6, .f32⟩
  | 94 => ⟨S6, .f32⟩
  | _ => ⟨S6x24x2048, .bf16⟩

abbrev hbmTy (i : Nat) : BufTy := match i / 128 with
  | 0 => hbmTy0_0 i
  | 1 => hbmTy0_1 i
  | _ => ⟨S6x24x2048, .bf16⟩

abbrev bufTy : (tb : Table) → Fin (tcTables nBuf tb) → BufTy
  | .hbm, ⟨i, _⟩ => hbmTy i
  | _, _ => ⟨S6x24x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_cst_7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_call3_v0 : Ref sig .tc := ⟨.hbm, 85, rfl⟩
abbrev main_call3_v1 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_cst_14 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c : Ref sig .tc := ⟨.hbm, 118, rfl⟩
abbrev main_v78 : Ref sig .tc := ⟨.hbm, 119, rfl⟩
abbrev main_v79 : Ref sig .tc := ⟨.hbm, 120, rfl⟩
abbrev main_c_15 : Ref sig .tc := ⟨.hbm, 121, rfl⟩
abbrev main_v80 : Ref sig .tc := ⟨.hbm, 122, rfl⟩
abbrev main_v81 : Ref sig .tc := ⟨.hbm, 123, rfl⟩
abbrev main_cst_16 : Ref sig .tc := ⟨.hbm, 124, rfl⟩
abbrev main_cst_17 : Ref sig .tc := ⟨.hbm, 125, rfl⟩
abbrev main_call6_v0 : Ref sig .tc := ⟨.hbm, 126, rfl⟩
abbrev main_call6_v1 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call7_v0 : Ref sig .tc := ⟨.hbm, 145, rfl⟩
abbrev main_call7_v1 : Ref sig .tc := ⟨.hbm, 146, rfl⟩
abbrev main_v99 : Ref sig .tc := ⟨.hbm, 147, rfl⟩
abbrev main_v100 : Ref sig .tc := ⟨.hbm, 148, rfl⟩
abbrev main_call8_v0 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_18 : Ref sig .tc := ⟨.hbm, 159, rfl⟩
abbrev main_v110 : Ref sig .tc := ⟨.hbm, 160, rfl⟩
abbrev main_v111 : Ref sig .tc := ⟨.hbm, 161, rfl⟩
abbrev main_c_19 : Ref sig .tc := ⟨.hbm, 162, rfl⟩
abbrev main_v112 : Ref sig .tc := ⟨.hbm, 163, rfl⟩
abbrev main_v113 : Ref sig .tc := ⟨.hbm, 164, rfl⟩
abbrev main_cst_20 : Ref sig .tc := ⟨.hbm, 165, rfl⟩
abbrev main_cst_21 : Ref sig .tc := ⟨.hbm, 166, rfl⟩
abbrev main_call9_v0 : Ref sig .tc := ⟨.hbm, 167, rfl⟩
abbrev main_call9_v1 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_22 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_23 : Ref sig .tc := ⟨.hbm, 190, rfl⟩
abbrev main_call10_v0 : Ref sig .tc := ⟨.hbm, 191, rfl⟩
abbrev main_call10_v1 : Ref sig .tc := ⟨.hbm, 192, rfl⟩
abbrev main_call10_v2 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_24 : Ref sig .tc := ⟨.hbm, 198, rfl⟩
abbrev main_call11_v0 : Ref sig .tc := ⟨.hbm, 199, rfl⟩
abbrev main_call11_v1 : Ref sig .tc := ⟨.hbm, 200, rfl⟩
abbrev main_call11_v2 : Ref sig .tc := ⟨.hbm, 201, rfl⟩
abbrev main_v138 : Ref sig .tc := ⟨.hbm, 202, rfl⟩
abbrev main_cst_25 : Ref sig .tc := ⟨.hbm, 203, rfl⟩
abbrev main_v139 : Ref sig .tc := ⟨.hbm, 204, rfl⟩
abbrev main_cst_26 : Ref sig .tc := ⟨.hbm, 205, rfl⟩
abbrev main_v140 : Ref sig .tc := ⟨.hbm, 206, rfl⟩
abbrev main_cst_27 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_cst_28 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_cst_29 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩

abbrev nD : Nat := 1
abbrev τ : Topo := Topo.v7x

variable {F : FTy → Type} [FloatOps F]
-- ==== Proof.Store.lean ====
/-
  A store and a load through the rectangle that is the whole shape.
-/
module

public import Idealize.ShloMosaic.Lib.Pipeline.ValueKit

@[expose] public section

namespace Cert.Own

open Idealize.ShloMosaic

/-- One store through the whole shape at zero offsets leaves its payload. -/
theorem read_store {Val : EltTy → Type} [∀ e, Nonempty (Val e)] {sig : RefSig} {κ : Kind} {sp : Space} {S : Shape} {e : EltTy}
    (v : View sig κ sp S e) (f : v.ty.Contents Val) {off : Fin S.rank → Nat} (inb : ∀ a, off a + S.size a ≤ S.size a)
    (w : S.Idx → Val e) (h : ∀ a, off a = 0) :
    v.read Val (v.writes Val f [(⟨Rect.unit off S.size inb, w⟩ : View.Piece Val S e)]) = w := by
  obtain rfl := View.eq_zero_of_forall h
  exact View.read_writes_whole v f w

/-- A load through the whole shape at zero offsets of a buffer that reads `x` gives `x`. -/
theorem load_whole {Val : EltTy → Type} {sig : RefSig} {κ : Kind} {sp : Space} {S : Shape} {e : EltTy}
    (v : View sig κ sp S e) (f : v.ty.Contents Val) {off : Fin S.rank → Nat} (inb : ∀ a, off a + S.size a ≤ S.size a)
    (x : S.Idx → Val e) (hx : v.read Val f = x) (h : ∀ a, off a = 0) :
    v.readAt Val (Rect.unit off S.size inb).toLoadRect f = x := by
  subst hx
  exact (View.readAt_eq_ld v f _).trans (View.ld_unit_lit inb _ h)

end Cert.Own
-- ==== Proof.Kernel.Stats.lean ====
/-
  The statistics kernel (`cc2_stats`) as a pipeline of one point: what its body leaves in each output, as the generated
  payloads of the input blocks, and the body obligation.
-/
module

public import proofs.«01_k».proof.Proof.Store
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.Kernel.Own.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- On whole staging memrefs, the inputs' at their contents and the outputs' at anything, the body runs to a continuation
    that holds the inputs' as they were and each output's at its payload. -/
theorem run (c : Dev nD) (arg0 : Memref sig .tc .vmem S6x24x4096 .f32) (harg0 : arg0.IsWhole) (arg1 : Memref sig .tc .vmem S6x1 .f32) (harg1 : arg1.IsWhole) (arg2 : Memref sig .tc .vmem S6x4096 .f32) (harg2 : arg2.IsWhole) (arg3 : Memref sig .tc .vmem S6x1 .f32) (harg3 : arg3.IsWhole) (arg4 : Memref sig .tc .vmem S6x1 .f32) (harg4 : arg4.IsWhole)
    (x0 : Vec F S6x24x4096 .f32) (x1 : Vec F S6x1 .f32) (E : Set ℕ) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (k2_pay1 x0) ∗ owns (c : Thread nD τ) arg3 fullShare (k2_pay2 x0) ∗ owns (c : Thread nD τ) arg4 fullShare (k2_pay3 x0 x1)) -∗ K ⟨⟩))
      ⊢ wp frame (wpE (defs₀ (F := F)) Variants.none c none) E (cc2_stats arg0 harg0 arg1 harg1 arg2 harg2 arg3 harg3 arg4 harg4) K := by
  simp only [cc2_stats_eq_skeleton]; unfold cc2_stats_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg0.eq_unread hf0; obtain rfl := harg1.eq_unread hf1
  have hx0 := Cert.Own.load_whole arg0.view (harg0.unread x0) inb_S6x24x4096_S6x24x4096_0_0_0 x0 hf0 (by decide)
  have hx1 := Cert.Own.load_whole arg1.view (harg1.unread x1) inb_S6x1_S6x1_0_0 x1 hf1 (by decide)
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (Cert.Own.read_store _ _ _ _ (by decide)).trans ?_
    simp only [hx0]
  isplitl [H3]
  · iexists _; isplitr; swap; · iexact H3
    ipureintro
    refine (Cert.Own.read_store _ _ _ _ (by decide)).trans ?_
    simp only [hx0]
  · iexists _; isplitr; swap; · iexact H4
    ipureintro
    refine (Cert.Own.read_store _ _ _ _ (by decide)).trans ?_
    simp only [hx0, hx1]

/-! ## The pipeline's proof data -/

/-- The region's invariant on core `c`: its other scoped buffers and the random-number register. -/
def ΦK (c : Dev nD) : sProp 𝕄 :=
  iprop(Pipeline.scopedRest (Ix := Unit) (Name := ℕ) (U := UR sig nD τ) (Lvl := ℕ) (Val := Elt F) spec2 c ∗ ∃ r, prngReg c r)

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data on core `c`: the arrays as the region finds them; after the body each input's buffer at its block and
    each output's at its payload of the input blocks; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay1 (iblk V c 0 t)
    | ⟨3, _⟩ => k2_pay2 (iblk V c 0 t)
    | ⟨4, _⟩ => k2_pay3 (iblk V c 0 t) (iblk V c 1 t)
  Φ _ := ΦK c
  q _ := fullShare
  owed _ := 0

/-- The arrays are the region-entry contents. -/
theorem A_eq (c : Dev nD) (w : Fin cfg2.W) : (dat V c).A w = V c (Pipeline.arrRef spec2 w) := by
  dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = k2_pay1 (iblk V c 0 t) := by dsimp only [dat]
theorem after_3 (c : Dev nD) (t : Fin cfg2.N) : (dat V c).after 3 t = k2_pay2 (iblk V c 0 t) := by dsimp only [dat]
theorem after_4 (c : Dev nD) (t : Fin cfg2.N) : (dat V c).after 4 t = k2_pay3 (iblk V c 0 t) (iblk V c 1 t) := by dsimp only [dat]

/-- Each input's current staging buffer holds its block. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (win2_0.stage (cfg2.slots t 0)) fullShare ((dat V c).before 0 t d))
    ∗ (∃ d, owns (c : Thread nD τ) (win2_1.stage (cfg2.slots t 1)) fullShare ((dat V c).before 1 t d))
    ∗ (∃ d, owns (c : Thread nD τ) (win2_2.stage (cfg2.slots t 2)) fullShare ((dat V c).before 2 t d))
    ∗ (∃ d, owns (c : Thread nD τ) (win2_3.stage (cfg2.slots t 3)) fullShare ((dat V c).before 3 t d))
    ∗ (∃ d, owns (c : Thread nD τ) (win2_4.stage (cfg2.slots t 4)) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (win2_0.stage (cfg2.slots t 0)) fullShare ((dat V c).after 0 t)
    ∗ owns (c : Thread nD τ) (win2_1.stage (cfg2.slots t 1)) fullShare ((dat V c).after 1 t)
    ∗ owns (c : Thread nD τ) (win2_2.stage (cfg2.slots t 2)) fullShare ((dat V c).after 2 t)
    ∗ owns (c : Thread nD τ) (win2_3.stage (cfg2.slots t 3)) fullShare ((dat V c).after 3 t)
    ∗ owns (c : Thread nD τ) (win2_4.stage (cfg2.slots t 4)) fullShare ((dat V c).after 4 t))

/-- The body at any point: the inputs' memrefs hold their blocks, so the run applies; the invariant passes through. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (run c _ _ _ _ _ _ _ _ _ _ (iblk V c 0 t) (iblk V c 1 t) Set.univ _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as the schedule spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Cert.Kernel.Own.Stats

end
-- ==== Proof.Kernel.Encode.lean ====
/-
  The encoding kernel (`cc0_encode`) as a pipeline of one point: what its body leaves in each output, as the generated
  payloads of the input blocks, and the body obligation.
-/
module

public import proofs.«01_k».proof.Proof.Store
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.Kernel.Own.Encode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- On whole staging memrefs, the inputs' at their contents and the outputs' at anything, the body runs to a continuation
    that holds the inputs' as they were and each output's at its payload. -/
theorem run (c : Dev nD) (arg0 : Memref sig .tc .vmem S144x2048 .bf16) (harg0 : arg0.IsWhole) (arg1 : Memref sig .tc .vmem S1x2048 .f32) (harg1 : arg1.IsWhole) (arg2 : Memref sig .tc .vmem S2048x128 .i8) (harg2 : arg2.IsWhole) (arg3 : Memref sig .tc .vmem S1x128 .f32) (harg3 : arg3.IsWhole) (arg4 : Memref sig .tc .vmem S1x128 .f32) (harg4 : arg4.IsWhole) (arg5 : Memref sig .tc .vmem S144x2048 .i8) (harg5 : arg5.IsWhole) (arg6 : Memref sig .tc .vmem S144x1 .f32) (harg6 : arg6.IsWhole) (arg7 : Memref sig .tc .vmem S144x128 .f32) (harg7 : arg7.IsWhole) (arg8 : Memref sig .tc .vmem S144x128 .f32) (harg8 : arg8.IsWhole) (arg9 : Memref sig .tc .vmem S144x128 .i8) (harg9 : arg9.IsWhole) (arg10 : Memref sig .tc .vmem S144x1 .f32) (harg10 : arg10.IsWhole)
    (x0 : Vec F S144x2048 .bf16) (x1 : Vec F S1x2048 .f32) (x2 : Vec F S2048x128 .i8) (x3 : Vec F S1x128 .f32) (x4 : Vec F S1x128 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k0_pay4 x0 x1) ∗ owns (c : Thread nD τ) arg6 fullShare (k0_pay2 x0 x1) ∗ owns (c : Thread nD τ) arg7 fullShare (k0_pay7 (k0_pay2 x0 x1) (k0_pay5 x0 x1) (k0_pay6 x2) x3 x4) ∗ owns (c : Thread nD τ) arg8 fullShare (k0_pay8 (k0_pay2 x0 x1) (k0_pay5 x0 x1) (k0_pay6 x2) x3 x4) ∗ owns (c : Thread nD τ) arg9 fullShare (k0_pay10 (k0_pay2 x0 x1) (k0_pay5 x0 x1) (k0_pay6 x2) x3 x4) ∗ owns (c : Thread nD τ) arg10 fullShare (k0_pay9 (k0_pay2 x0 x1) (k0_pay5 x0 x1) (k0_pay6 x2) x3 x4)) -∗ K ⟨⟩))
      ⊢ wp frame (wpE (defs₀ (F := F)) Variants.none c none) E (cc0_encode arg0 harg0 arg1 harg1 arg2 harg2 arg3 harg3 arg4 harg4 arg5 harg5 arg6 harg6 arg7 harg7 arg8 harg8 arg9 harg9 arg10 harg10) K := by
  simp only [cc0_encode_eq_skeleton]; unfold cc0_encode_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg0.eq_unread hf0; obtain rfl := harg1.eq_unread hf1; obtain rfl := harg2.eq_unread hf2; obtain rfl := harg3.eq_unread hf3; obtain rfl := harg4.eq_unread hf4
  have hx0 := Cert.Own.load_whole arg0.view (harg0.unread x0) inb_S144x2048_S144x2048_0_0 x0 hf0 (by decide)
  have hx1 := Cert.Own.load_whole arg1.view (harg1.unread x1) inb_S1x2048_S1x2048_0_0 x1 hf1 (by decide)
  have hx2 := Cert.Own.load_whole arg2.view (harg2.unread x2) inb_S2048x128_S2048x128_0_0 x2 hf2 (by decide)
  have hx3 := Cert.Own.load_whole arg3.view (harg3.unread x3) inb_S1x128_S1x128_0_0 x3 hf3 (by decide)
  have hx4 := Cert.Own.load_whole arg4.view (harg4.unread x4) inb_S1x128_S1x128_0_0 x4 hf4 (by decide)
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (Cert.Own.read_store _ _ _ _ (by decide)).trans ?_
    simp only [hx0, hx1]
  isplitl [H6]
  · iexists _; isplitr; swap; · iexact H6
    ipureintro
    refine (Cert.Own.read_store _ _ _ _ (by decide)).trans ?_
    simp only [hx0, hx1]
  isplitl [H7]
  · iexists _; isplitr; swap; · iexact H7
    ipureintro
    refine (Cert.Own.read_store _ _ _ _ (by decide)).trans ?_
    simp only [hx0, hx1, hx2, hx3, hx4]
  isplitl [H8]
  · iexists _; isplitr; swap; · iexact H8
    ipureintro
    refine (Cert.Own.read_store _ _ _ _ (by decide)).trans ?_
    simp only [hx0, hx1, hx2, hx3, hx4]
  isplitl [H9]
  · iexists _; isplitr; swap; · iexact H9
    ipureintro
    refine (Cert.Own.read_store _ _ _ _ (by decide)).trans ?_
    simp only [hx0, hx1, hx2, hx3, hx4]
  · iexists _; isplitr; swap; · iexact H10
    ipureintro
    refine (Cert.Own.read_store _ _ _ _ (by decide)).trans ?_
    rfl

/-! ## The pipeline's proof data -/

/-- The region's invariant on core `c`: its other scoped buffers and the random-number register. -/
def ΦK (c : Dev nD) : sProp 𝕄 :=
  iprop(Pipeline.scopedRest (Ix := Unit) (Name := ℕ) (U := UR sig nD τ) (Lvl := ℕ) (Val := Elt F) spec0 c ∗ ∃ r, prngReg c r)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data on core `c`: the arrays as the region finds them; after the body each input's buffer at its block and
    each output's at its payload of the input blocks; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay4 (iblk V c 0 t) (iblk V c 1 t)
    | ⟨6, _⟩ => k0_pay2 (iblk V c 0 t) (iblk V c 1 t)
    | ⟨7, _⟩ => k0_pay7 (k0_pay2 (iblk V c 0 t) (iblk V c 1 t)) (k0_pay5 (iblk V c 0 t) (iblk V c 1 t)) (k0_pay6 (iblk V c 2 t)) (iblk V c 3 t) (iblk V c 4 t)
    | ⟨8, _⟩ => k0_pay8 (k0_pay2 (iblk V c 0 t) (iblk V c 1 t)) (k0_pay5 (iblk V c 0 t) (iblk V c 1 t)) (k0_pay6 (iblk V c 2 t)) (iblk V c 3 t) (iblk V c 4 t)
    | ⟨9, _⟩ => k0_pay10 (k0_pay2 (iblk V c 0 t) (iblk V c 1 t)) (k0_pay5 (iblk V c 0 t) (iblk V c 1 t)) (k0_pay6 (iblk V c 2 t)) (iblk V c 3 t) (iblk V c 4 t)
    | ⟨10, _⟩ => k0_pay9 (k0_pay2 (iblk V c 0 t) (iblk V c 1 t)) (k0_pay5 (iblk V c 0 t) (iblk V c 1 t)) (k0_pay6 (iblk V c 2 t)) (iblk V c 3 t) (iblk V c 4 t)
  Φ _ := ΦK c
  q _ := fullShare
  owed _ := 0

/-- The arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = k0_pay4 (iblk V c 0 t) (iblk V c 1 t) := by dsimp only [dat]
theorem after_6 (c : Dev nD) (t : Fin cfg0.N) : (dat V c).after 6 t = k0_pay2 (iblk V c 0 t) (iblk V c 1 t) := by dsimp only [dat]
theorem after_7 (c : Dev nD) (t : Fin cfg0.N) : (dat V c).after 7 t = k0_pay7 (k0_pay2 (iblk V c 0 t) (iblk V c 1 t)) (k0_pay5 (iblk V c 0 t) (iblk V c 1 t)) (k0_pay6 (iblk V c 2 t)) (iblk V c 3 t) (iblk V c 4 t) := by dsimp only [dat]
theorem after_8 (c : Dev nD) (t : Fin cfg0.N) : (dat V c).after 8 t = k0_pay8 (k0_pay2 (iblk V c 0 t) (iblk V c 1 t)) (k0_pay5 (iblk V c 0 t) (iblk V c 1 t)) (k0_pay6 (iblk V c 2 t)) (iblk V c 3 t) (iblk V c 4 t) := by dsimp only [dat]
theorem after_9 (c : Dev nD) (t : Fin cfg0.N) : (dat V c).after 9 t = k0_pay10 (k0_pay2 (iblk V c 0 t) (iblk V c 1 t)) (k0_pay5 (iblk V c 0 t) (iblk V c 1 t)) (k0_pay6 (iblk V c 2 t)) (iblk V c 3 t) (iblk V c 4 t) := by dsimp only [dat]
theorem after_10 (c : Dev nD) (t : Fin cfg0.N) : (dat V c).after 10 t = k0_pay9 (k0_pay2 (iblk V c 0 t) (iblk V c 1 t)) (k0_pay5 (iblk V c 0 t) (iblk V c 1 t)) (k0_pay6 (iblk V c 2 t)) (iblk V c 3 t) (iblk V c 4 t) := by dsimp only [dat]

/-- Each input's current staging buffer holds its block. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d))
    ∗ (∃ d, owns (c : Thread nD τ) (win0_5.stage (cfg0.slots t 5)) fullShare ((dat V c).before 5 t d))
    ∗ (∃ d, owns (c : Thread nD τ) (win0_6.stage (cfg0.slots t 6)) fullShare ((dat V c).before 6 t d))
    ∗ (∃ d, owns (c : Thread nD τ) (win0_7.stage (cfg0.slots t 7)) fullShare ((dat V c).before 7 t d))
    ∗ (∃ d, owns (c : Thread nD τ) (win0_8.stage (cfg0.slots t 8)) fullShare ((dat V c).before 8 t d))
    ∗ (∃ d, owns (c : Thread nD τ) (win0_9.stage (cfg0.slots t 9)) fullShare ((dat V c).before 9 t d))
    ∗ (∃ d, owns (c : Thread nD τ) (win0_10.stage (cfg0.slots t 10)) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (win0_0.stage (cfg0.slots t 0)) fullShare ((dat V c).after 0 t)
    ∗ owns (c : Thread nD τ) (win0_1.stage (cfg0.slots t 1)) fullShare ((dat V c).after 1 t)
    ∗ owns (c : Thread nD τ) (win0_2.stage (cfg0.slots t 2)) fullShare ((dat V c).after 2 t)
    ∗ owns (c : Thread nD τ) (win0_3.stage (cfg0.slots t 3)) fullShare ((dat V c).after 3 t)
    ∗ owns (c : Thread nD τ) (win0_4.stage (cfg0.slots t 4)) fullShare ((dat V c).after 4 t)
    ∗ owns (c : Thread nD τ) (win0_5.stage (cfg0.slots t 5)) fullShare ((dat V c).after 5 t)
    ∗ owns (c : Thread nD τ) (win0_6.stage (cfg0.slots t 6)) fullShare ((dat V c).after 6 t)
    ∗ owns (c : Thread nD τ) (win0_7.stage (cfg0.slots t 7)) fullShare ((dat V c).after 7 t)
    ∗ owns (c : Thread nD τ) (win0_8.stage (cfg0.slots t 8)) fullShare ((dat V c).after 8 t)
    ∗ owns (c : Thread nD τ) (win0_9.stage (cfg0.slots t 9)) fullShare ((dat V c).after 9 t)
    ∗ owns (c : Thread nD τ) (win0_10.stage (cfg0.slots t 10)) fullShare ((dat V c).after 10 t))

/-- The body at any point: the inputs' memrefs hold their blocks, so the run applies; the invariant passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c _ _ _ _ _ _ _ _ _ _ _ _ _ _ _ _ _ _ _ _ _ _ (iblk V c 0 t) (iblk V c 1 t) (iblk V c 2 t) (iblk V c 3 t) (iblk V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as the schedule spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Kernel.Own.Encode

end
-- ==== Proof.Kernel.Score.lean ====
/-
  The scoring kernel (`cc1_score`) as a pipeline of 32 points, each scoring the 128 pages of its block: the counted loop's
  carried value in closed form, what the body leaves in each output, and the body obligation. The table of page lengths is
  prefetched to scalar memory and held by the region's invariant.
-/
module

public import proofs.«01_k».proof.Proof.Store
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.Kernel.Own.Score

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the entry contents of the region's arrays and of its table
variable (V : (c : Dev nD) → (b : Ref sig .tc) → Buf (Elt F) ((c : Thread nD τ).loc b))

/-! ## The loop over the block's pages -/

/-- The packed words of page `k` of the block. -/
def wordsAt (x5 : Vec F S128x4x1024 .i32) (k : Fin k1_t1_loop.trips) : Vec F S1x4x1024 .i32 :=
  View.ld x5 (Rect.unit (s := S128x4x1024) (k1_off1 k) S1x4x1024.size (k1_off1_inb k))

/-- The scales of page `k` of the block. -/
def scaleAt (x6 : Vec F S128x1024 .f32) (k : Fin k1_t1_loop.trips) : Vec F S1x1024 .f32 :=
  View.ld x6 (Rect.unit (s := S128x1024) (k1_off2 k) S1x1024.size (k1_off2_inb k))

/-- The length of page `k` of block `i`, out of the table. -/
def lenAt (x1 : Vec F S4096 .i32) (i : grid1.Coords) (k : Fin k1_t1_loop.trips) : Elt F .i32 :=
  View.ld x1 (Rect.unit (s := S4096) (k1_off3 i k) S1.size (k1_off3_inb i k)) (Shape.Idx.first (numel1_S1.symm ▸ Nat.one_pos))

/-- One trip: page `k`'s column put into the two carried matrices. -/
def trip (i : grid1.Coords) (x1 : Vec F S4096 .i32) (x2 : Vec F S144x128 .i8) (x5 : Vec F S128x4x1024 .i32) (x6 : Vec F S128x1024 .f32)
    (k : Fin k1_t1_loop.trips) (acc : FVec F S144x128 .f32 × FVec F S144x128 .f32) : FVec F S144x128 .f32 × FVec F S144x128 .f32 :=
  (k1_pay3 x2 k acc.1 (wordsAt x5 k) (scaleAt x6 k) (lenAt x1 i k), k1_pay4 x2 k acc.2 (wordsAt x5 k) (scaleAt x6 k))

/-- The carried matrices before trip `k`. -/
def st (i : grid1.Coords) (x1 : Vec F S4096 .i32) (x2 : Vec F S144x128 .i8) (x5 : Vec F S128x4x1024 .i32) (x6 : Vec F S128x1024 .f32) :
    ℕ → FVec F S144x128 .f32 × FVec F S144x128 .f32
  | 0 => (k1_pay1, k1_pay1)
  | k + 1 => if h : k < k1_t1_loop.trips then trip i x1 x2 x5 x6 ⟨k, h⟩ (st i x1 x2 x5 x6 k) else st i x1 x2 x5 x6 k

theorem st_succ (i : grid1.Coords) (x1 : Vec F S4096 .i32) (x2 : Vec F S144x128 .i8) (x5 : Vec F S128x4x1024 .i32) (x6 : Vec F S128x1024 .f32)
    (k : Fin k1_t1_loop.trips) : st i x1 x2 x5 x6 (k.val + 1) = trip i x1 x2 x5 x6 k (st i x1 x2 x5 x6 k.val) := by
  rw [st.eq_2]; exact dif_pos k.isLt

set_option maxHeartbeats 4000000 in
/-- One trip of the loop runs to the yield of `trip`, the buffers it reads as they were. -/
theorem trip_run (c : Dev nD) (i : grid1.Coords) (arg1 : Memref sig .tc .smem S4096 .i32) (harg1 : arg1.IsWhole) (arg2 : Memref sig .tc .vmem S144x128 .i8) (harg2 : arg2.IsWhole) (arg3 : Memref sig .tc .vmem S144x1 .f32) (harg3 : arg3.IsWhole) (arg4 : Memref sig .tc .vmem S144x1 .i32) (harg4 : arg4.IsWhole) (arg5 : Memref sig .tc .vmem S128x4x1024 .i32) (harg5 : arg5.IsWhole) (arg6 : Memref sig .tc .vmem S128x1024 .f32) (harg6 : arg6.IsWhole) (arg7 : Memref sig .tc .vmem S144x128 .f32) (harg7 : arg7.IsWhole) (arg8 : Memref sig .tc .vmem S144x128 .f32) (harg8 : arg8.IsWhole)
    (x1 : Vec F S4096 .i32) (x2 : Vec F S144x128 .i8) (x5 : Vec F S128x4x1024 .i32) (x6 : Vec F S128x1024 .f32)
    (k : Fin k1_t1_loop.trips) (acc : FVec F S144x128 .f32 × FVec F S144x128 .f32) (E : Set ℕ) :
    (iprop((arg1.view.loc (c : Thread nD τ) ↦[arg1.view.set]{fullShare} harg1.unread x1) ∗ (arg5.view.loc (c : Thread nD τ) ↦[arg5.view.set]{fullShare} harg5.unread x5) ∗ (arg6.view.loc (c : Thread nD τ) ↦[arg6.view.set]{fullShare} harg6.unread x6)) : sProp 𝕄)
      ⊢ wp frame (wpE (defs₀ (F := F)) Variants.none (c : Thread nD τ) none) E (k1_t1_body (F := F) i arg1 harg1 arg2 harg2 arg3 harg3 arg4 harg4 arg5 harg5 arg6 harg6 arg7 harg7 arg8 harg8 x2 k acc)
          (fun yld => iprop(⌜yld = trip i x1 x2 x5 x6 k acc⌝ ∗ (arg1.view.loc (c : Thread nD τ) ↦[arg1.view.set]{fullShare} harg1.unread x1) ∗ (arg5.view.loc (c : Thread nD τ) ↦[arg5.view.set]{fullShare} harg5.unread x5) ∗ (arg6.view.loc (c : Thread nD τ) ↦[arg6.view.set]{fullShare} harg6.unread x6))) := by
  have hk : k.val < 128 := Nat.lt_of_lt_of_le k.isLt k1_t1_abs.2.1
  unfold k1_t1_body
  iintro ⟨H1, H5, H6⟩
  sl_exec
  sl_step
  have e5 : View.readAt (Elt F) arg5.view (Rect.unit (s := S128x4x1024) (k1_off1 k) S1x4x1024.size (k1_off1_inb k)).toLoadRect (harg5.unread x5) = wordsAt x5 k := by
    unfold wordsAt; rw [View.readAt_eq_ld, harg5.read_unread]
  have e6 : View.readAt (Elt F) arg6.view (Rect.unit (s := S128x1024) (k1_off2 k) S1x1024.size (k1_off2_inb k)).toLoadRect (harg6.unread x6) = scaleAt x6 k := by
    unfold scaleAt; rw [View.readAt_eq_ld, harg6.read_unread]
  have e1 : trip_run.sl.r i arg1 harg1 x1 k = lenAt x1 i k := by
    unfold trip_run.sl.r lenAt; rw [View.readAt_eq_ld, harg1.read_unread]
  rw [e5, e6, e1]
  isplitr; · ipureintro; rfl
  isplitl [H1]; · iexact H1
  isplitl [H5]; · iexact H5
  iexact H6

set_option warn.classDefReducibility false in
/-- The loop's invariant before trip `k`: the table, the words and the scales as they were, the carried matrices at `st k`. -/
@[sl_loop] def loopInv (c : Dev nD) (E : Set ℕ) (i : grid1.Coords) (arg1 : Memref sig .tc .smem S4096 .i32) (harg1 : arg1.IsWhole) (arg2 : Memref sig .tc .vmem S144x128 .i8) (harg2 : arg2.IsWhole) (arg3 : Memref sig .tc .vmem S144x1 .f32) (harg3 : arg3.IsWhole) (arg4 : Memref sig .tc .vmem S144x1 .i32) (harg4 : arg4.IsWhole) (arg5 : Memref sig .tc .vmem S128x4x1024 .i32) (harg5 : arg5.IsWhole) (arg6 : Memref sig .tc .vmem S128x1024 .f32) (harg6 : arg6.IsWhole) (arg7 : Memref sig .tc .vmem S144x128 .f32) (harg7 : arg7.IsWhole) (arg8 : Memref sig .tc .vmem S144x128 .f32) (harg8 : arg8.IsWhole)
    (x1 : Vec F S4096 .i32) (x2 : Vec F S144x128 .i8) (x5 : Vec F S128x4x1024 .i32) (x6 : Vec F S128x1024 .f32) :
    Idealize.ShloMosaic.LoopInv (M := 𝕄) Idealize.ShloMosaic.frame (wpE (defs₀ (F := F)) Variants.none (c : Thread nD τ) none) E
      k1_t1_loop.lb k1_t1_loop.ub k1_t1_loop.st k1_t1_ok (k1_pay1 (F := F), k1_pay1 (F := F)) (k1_t1_body (F := F) i arg1 harg1 arg2 harg2 arg3 harg3 arg4 harg4 arg5 harg5 arg6 harg6 arg7 harg7 arg8 harg8 x2) where
  inv k acc := iprop((arg1.view.loc (c : Thread nD τ) ↦[arg1.view.set]{fullShare} harg1.unread x1) ∗ (arg5.view.loc (c : Thread nD τ) ↦[arg5.view.set]{fullShare} harg5.unread x5) ∗ (arg6.view.loc (c : Thread nD τ) ↦[arg6.view.set]{fullShare} harg6.unread x6) ∗ ⌜acc = st i x1 x2 x5 x6 k⌝)
  step k acc := by
    iintro ⟨H1, H5, H6, %hacc⟩
    subst hacc
    iapply (wp_wand_r Idealize.ShloMosaic.frame (wpE (defs₀ (F := F)) Variants.none (c : Thread nD τ) none) E)
    isplitl [H1 H5 H6]
    · iapply (trip_run c i arg1 harg1 arg2 harg2 arg3 harg3 arg4 harg4 arg5 harg5 arg6 harg6 arg7 harg7 arg8 harg8 x1 x2 x5 x6 k (st i x1 x2 x5 x6 k) E)
      isplitl [H1]; · iexact H1
      isplitl [H5]; · iexact H5
      iexact H6
    · iintro %yld ⟨%h, H1, H5, H6⟩
      isplitl [H1]; · iexact H1
      isplitl [H5]; · iexact H5
      isplitl [H6]; · iexact H6
      ipureintro; rw [h, st_succ]

/-- The loop makes 128 trips. -/
theorem trips_eq : Scf.trips k1_t1_loop.lb k1_t1_loop.ub k1_t1_loop.st = 128 := by decide +kernel

set_option maxHeartbeats 4000000 in
/-- On the table and whole staging memrefs, the inputs' at their contents and the outputs' at anything, the body runs to a
    continuation that holds the inputs' as they were and each output's at its payload. -/
theorem run (c : Dev nD) (i : grid1.Coords) (arg1 : Memref sig .tc .smem S4096 .i32) (harg1 : arg1.IsWhole) (arg2 : Memref sig .tc .vmem S144x128 .i8) (harg2 : arg2.IsWhole) (arg3 : Memref sig .tc .vmem S144x1 .f32) (harg3 : arg3.IsWhole) (arg4 : Memref sig .tc .vmem S144x1 .i32) (harg4 : arg4.IsWhole) (arg5 : Memref sig .tc .vmem S128x4x1024 .i32) (harg5 : arg5.IsWhole) (arg6 : Memref sig .tc .vmem S128x1024 .f32) (harg6 : arg6.IsWhole) (arg7 : Memref sig .tc .vmem S144x128 .f32) (harg7 : arg7.IsWhole) (arg8 : Memref sig .tc .vmem S144x128 .f32) (harg8 : arg8.IsWhole)
    (x1 : Vec F S4096 .i32) (x2 : Vec F S144x128 .i8) (x3 : Vec F S144x1 .f32) (x4 : Vec F S144x1 .i32) (x5 : Vec F S128x4x1024 .i32) (x6 : Vec F S128x1024 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k1_pay6 (st i x1 x2 x5 x6 128).1 x4 x3) ∗ owns (c : Thread nD τ) arg8 fullShare (k1_pay7 (st i x1 x2 x5 x6 128).2 x4 x3)) -∗ K ⟨⟩))
      ⊢ wp frame (wpE (defs₀ (F := F)) Variants.none c none) E (cc1_score i arg1 harg1 arg2 harg2 arg3 harg3 arg4 harg4 arg5 harg5 arg6 harg6 arg7 harg7 arg8 harg8) K := by
  simp only [cc1_score_eq_skeleton]; unfold cc1_score_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  have hx2 := Cert.Own.load_whole arg2.view (harg2.unread x2) inb_S144x128_S144x128_0_0 x2 hf2 (by decide)
  have hx3 := Cert.Own.load_whole arg3.view (harg3.unread x3) inb_S144x1_S144x1_0_0 x3 hf3 (by decide)
  have hx4 := Cert.Own.load_whole arg4.view (harg4.unread x4) inb_S144x1_S144x1_0_0 x4 hf4 (by decide)
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    refine (Cert.Own.read_store _ _ _ _ (by decide)).trans ?_
    rw [trips_eq]
  · iexists _; isplitr; swap; · iexact H8
    ipureintro
    refine (Cert.Own.read_store _ _ _ _ (by decide)).trans ?_
    rw [trips_eq]

/-! ## The pipeline's proof data -/

variable (a : (pcfg1 (F := F)).Adm)

/-- The table of page lengths. -/
abbrev tab : Vec F S4096 .i32 := a.1 0

/-- The region's invariant on core `c`: its other scoped buffers, the random-number register and the table. -/
def ΦK (c : Dev nD) : sProp 𝕄 :=
  iprop(iprop(Pipeline.scopedRest (Ix := Unit) (Name := ℕ) (U := UR sig nD τ) (Lvl := ℕ) (Val := Elt F) spec1 c ∗ ∃ r, prngReg c r)
    ∗ Pipeline.prefHeld pre1 c (fun _ => fullShare) a.1)

/-- The prefetched table, held, is its memref owned. -/
theorem prefHeld_eq (c : Dev nD) :
    (Pipeline.prefHeld pre1 c (fun _ => fullShare) a.1 : sProp 𝕄) = owns (c : Thread nD τ) (Memref.whole main_arg9) fullShare (tab a) := by
  unfold Pipeline.prefHeld
  rw [bigSep_univ_eq_bigSepL [(0 : Fin 1)] (by decide) (by decide)]
  rw [owns_whole_eq]
  refine BI.Entails.antisymm (show (((c.tc : Thread nD τ).loc main_arg9) ↦{fullShare} (tab a) : sProp 𝕄) ⊢ _ from ?_)
    (show _ ⊢ (((c.tc : Thread nD τ).loc main_arg9) ↦{fullShare} (tab a) : sProp 𝕄) from ?_)
  · iintro H
    iexists _
    isplitr; · ipureintro; rfl
    iexact H
  · iintro ⟨%f, %hf, H⟩
    subst hf
    iexact H

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The carried matrices after the block's 128 pages, at point `t`. -/
def best (c : Dev nD) (t : Fin (cfg1 a).N) : FVec F S144x128 .f32 × FVec F S144x128 .f32 :=
  st (grid1.coords t) (tab a) (iblk V a c 0 t) (iblk V a c 3 t) (iblk V a c 4 t) 128

/-- The proof data on core `c`: the arrays as the region finds them; after the body each input's buffer at its block and
    each output's at its payload; nothing owed; full shares. -/
def dat (c : Dev nD) : Dat τ (Elt F) Unit ℕ (UR sig nD τ) ℕ (cfg1 a) c where
  A w := V c (Pipeline.arrRef spec1 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => k1_pay6 (best V a c t).1 (iblk V a c 2 t) (iblk V a c 1 t)
    | ⟨6, _⟩ => k1_pay7 (best V a c t).2 (iblk V a c 2 t) (iblk V a c 1 t)
  Φ _ := ΦK a c
  q _ := fullShare
  owed _ := 0

/-- The arrays are the region-entry contents. -/
theorem A_eq (c : Dev nD) (w : Fin (cfg1 a).W) : (dat V a c).A w = V c (Pipeline.arrRef spec1 w) := by
  dsimp only [dat]

/-- What the body leaves, window by window. -/
theorem after_0 (c : Dev nD) (t : Fin (cfg1 a).N) : (dat V a c).after 0 t = iblk V a c 0 t := rfl
theorem after_1 (c : Dev nD) (t : Fin (cfg1 a).N) : (dat V a c).after 1 t = iblk V a c 1 t := rfl
theorem after_2 (c : Dev nD) (t : Fin (cfg1 a).N) : (dat V a c).after 2 t = iblk V a c 2 t := rfl
theorem after_3 (c : Dev nD) (t : Fin (cfg1 a).N) : (dat V a c).after 3 t = iblk V a c 3 t := rfl
theorem after_4 (c : Dev nD) (t : Fin (cfg1 a).N) : (dat V a c).after 4 t = iblk V a c 4 t := rfl
theorem after_5 (c : Dev nD) (t : Fin (cfg1 a).N) : (dat V a c).after 5 t = k1_pay6 (best V a c t).1 (iblk V a c 2 t) (iblk V a c 1 t) := rfl
theorem after_6 (c : Dev nD) (t : Fin (cfg1 a).N) : (dat V a c).after 6 t = k1_pay7 (best V a c t).2 (iblk V a c 2 t) (iblk V a c 1 t) := rfl

/-- Each input's current staging buffer holds its block. -/
theorem before_0 (c : Dev nD) (t : Fin (cfg1 a).N) (d) : (dat V a c).before 0 t d = iblk V a c 0 t :=
  ((dat V a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat V a c).before 1 t d = iblk V a c 1 t :=
  ((dat V a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg1 a).N) (d) : (dat V a c).before 2 t d = iblk V a c 2 t :=
  ((dat V a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg1 a).N) (d) : (dat V a c).before 3 t d = iblk V a c 3 t :=
  ((dat V a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg1 a).N) (d) : (dat V a c).before 4 t d = iblk V a c 4 t :=
  ((dat V a c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The body as the pipeline calls it at point `t`. -/
abbrev bodyAt (t : Fin (cfg1 a).N) : Prog (TpuEff nD τ sig (Elt F) Λ₀ .tc) PUnit :=
  cc1_score (grid1.coords t) (Memref.whole main_arg9) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6))

/-- What the body is called with at point `t`, the windows one by one, -/
def bodyPre (c : Dev nD) (t : Fin (cfg1 a).N) : sProp 𝕄 :=
  iprop((dat V a c).Φ t.castSucc ∗ (dat V a c).owesAt () t.castSucc
    ∗ (∃ d, owns (c : Thread nD τ) (spec1_0.stage ((cfg1 a).slots t 0)) fullShare ((dat V a c).before 0 t d))
    ∗ (∃ d, owns (c : Thread nD τ) (spec1_1.stage ((cfg1 a).slots t 1)) fullShare ((dat V a c).before 1 t d))
    ∗ (∃ d, owns (c : Thread nD τ) (spec1_2.stage ((cfg1 a).slots t 2)) fullShare ((dat V a c).before 2 t d))
    ∗ (∃ d, owns (c : Thread nD τ) (spec1_3.stage ((cfg1 a).slots t 3)) fullShare ((dat V a c).before 3 t d))
    ∗ (∃ d, owns (c : Thread nD τ) (spec1_4.stage ((cfg1 a).slots t 4)) fullShare ((dat V a c).before 4 t d))
    ∗ (∃ d, owns (c : Thread nD τ) (spec1_5.stage ((cfg1 a).slots t 5)) fullShare ((dat V a c).before 5 t d))
    ∗ (∃ d, owns (c : Thread nD τ) (spec1_6.stage ((cfg1 a).slots t 6)) fullShare ((dat V a c).before 6 t d)))

/-- and what it returns. -/
def bodyPost (c : Dev nD) (t : Fin (cfg1 a).N) : sProp 𝕄 :=
  iprop((dat V a c).Φ t.succ ∗ (dat V a c).owesAt () t.succ
    ∗ owns (c : Thread nD τ) (spec1_0.stage ((cfg1 a).slots t 0)) fullShare ((dat V a c).after 0 t)
    ∗ owns (c : Thread nD τ) (spec1_1.stage ((cfg1 a).slots t 1)) fullShare ((dat V a c).after 1 t)
    ∗ owns (c : Thread nD τ) (spec1_2.stage ((cfg1 a).slots t 2)) fullShare ((dat V a c).after 2 t)
    ∗ owns (c : Thread nD τ) (spec1_3.stage ((cfg1 a).slots t 3)) fullShare ((dat V a c).after 3 t)
    ∗ owns (c : Thread nD τ) (spec1_4.stage ((cfg1 a).slots t 4)) fullShare ((dat V a c).after 4 t)
    ∗ owns (c : Thread nD τ) (spec1_5.stage ((cfg1 a).slots t 5)) fullShare ((dat V a c).after 5 t)
    ∗ owns (c : Thread nD τ) (spec1_6.stage ((cfg1 a).slots t 6)) fullShare ((dat V a c).after 6 t))

/-- The body at any point: the inputs' memrefs hold their blocks and the invariant the table, so the run applies. -/
theorem sound_body (c : Dev nD) (t : Fin (cfg1 a).N) :
    bodyPre V a c t ⊢ wp frame (wpE (defs₀ (F := F)) Variants.none c none) Set.univ (bodyAt a t) (fun _ => bodyPost V a c t) := by
  unfold bodyPre bodyPost bodyAt
  simp only [before_0, before_1, before_2, before_3, before_4]
  rw [show (dat V a c).Φ t.succ = ΦK a c from rfl, show (dat V a c).Φ t.castSucc = ΦK a c from rfl,
    show (dat V a c).owesAt () t.succ = (dat V a c).owesAt () t.castSucc from rfl,
    after_0, after_1, after_2, after_3, after_4, after_5, after_6]
  unfold ΦK best
  rw [prefHeld_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  iapply (run c (grid1.coords t) _ _ _ _ _ _ _ _ _ _ _ _ _ _ _ _ (tab a) (iblk V a c 0 t) (iblk V a c 1 t) (iblk V a c 2 t) (iblk V a c 3 t) (iblk V a c 4 t) Set.univ _)
  isplitl [HT]; · iexact HT
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨HT, H0, H1, H2, H3, H4, H5, H6⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt` spells it. -/
theorem defs₀_row (t : Fin (cfg1 a).N) :
    defs₀ (F := F) .tc (cfg1 a).body ((cfg1 a).bodyArgs t ((cfg1 a).slots t)) = bodyAt a t := by
  unfold defs₀; rw [Defs.onTc_tc]

/-- The library's body obligation, at every point. -/
theorem body_obligation (c : Dev nD) : BodyObligation (dat V a c) (defs₀ (F := F)) Variants.none () Set.univ := fun t => by
  rw [bigSep_W1, bigSep_W1, defs₀_row]
  exact triple_restated (sound_body V a c t) rfl .rfl fun _ => .rfl

end Cert.Kernel.Own.Score

end
-- ==== Proof.Kernel.Run.lean ====
/-
  The launch: @main as four host stretches and three kernel regions, what each buffer holds between them, and the run: from
  any memory every weakly fair execution ends, and it leaves every unscoped buffer at the last of these valuations.
-/
module

public import proofs.«01_k».proof.Proof.Kernel.Stats
public import proofs.«01_k».proof.Proof.Kernel.Encode
public import proofs.«01_k».proof.Proof.Kernel.Score
public import proofs.«01_k».proof.Proof.Gen.Kernel.Regions
public import Idealize.ShloMosaic.Lib.Pipeline.RegionArraysS
public import Idealize.ShloMosaic.Lib.Pipeline.RegionArraysTS
public import Idealize.ShloMosaic.Lib.Pipeline.FrameTail

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg afterRegion)

variable {F : FTy → Type} [FloatOps F]

local notation "𝕄" => MT nD τ sig Unit (Elt F) ℕ (UR sig nD τ) ℕ

variable (m : (ℓ : Loc nD τ sig) → Buf (Elt F) ℓ)

/-! ## The buffers between the items -/

/-- The tables every pipeline prefetches: the score pipeline's page lengths as launched. -/
def adm : (p : Fin 3) → (pcfgs (F := F) p).Adm
  | 0 => cfg0.toPCfg_adm
  | 1 => ⟨fun k => m (((0 : Dev nD).tc : Thread nD τ).loc (pre1.ref k)), trivial⟩
  | 2 => cfg2.toPCfg_adm

/-- Core `c`'s buffers at launch. -/
def W0 (c : Dev nD) : Valuation τ sig (Elt F) := fun b => m (c, b)
/-- After the operations before the encoder. -/
def W1 (c : Dev nD) : Valuation τ sig (Elt F) := StableHlo.after hostOps0 (W0 m c)
/-- The encoder's proof data. -/
def dat0 (c : Dev nD) : Dat τ (Elt F) Unit ℕ (UR sig nD τ) ℕ cfg0 c := Encode.dat (fun c b => W1 m c (Proc.devRef .tc b)) c
/-- After the encoder. -/
def W2 (c : Dev nD) : Valuation τ sig (Elt F) := afterRegion (dat0 m c) (W1 m c)
/-- After the operations before the scores. -/
def W3 (c : Dev nD) : Valuation τ sig (Elt F) := StableHlo.after hostOps1 (W2 m c)
/-- The score kernel's proof data. -/
def dat1 (c : Dev nD) : Dat τ (Elt F) Unit ℕ (UR sig nD τ) ℕ (cfg1 (adm m 1)) c :=
  Score.dat (fun c b => W3 m c (Proc.devRef .tc b)) (adm m 1) c
/-- After the scores. -/
def W4 (c : Dev nD) : Valuation τ sig (Elt F) := afterRegion (dat1 m c) (W3 m c)
/-- After the operations before the statistics. -/
def W5 (c : Dev nD) : Valuation τ sig (Elt F) := StableHlo.after hostOps2 (W4 m c)
/-- The statistics kernel's proof data. -/
def dat2 (c : Dev nD) : Dat τ (Elt F) Unit ℕ (UR sig nD τ) ℕ cfg2 c := Stats.dat (fun c b => W5 m c (Proc.devRef .tc b)) c
/-- After the statistics. -/
def W6 (c : Dev nD) : Valuation τ sig (Elt F) := afterRegion (dat2 m c) (W5 m c)
/-- At the end. -/
def W7 (c : Dev nD) : Valuation τ sig (Elt F) := StableHlo.after hostOps3 (W6 m c)

/-- The three pipelines' proof data. -/
def pdats : (p : Fin 3) → (c : Dev nD) → Dat τ (Elt F) Unit ℕ (UR sig nD τ) ℕ (Pipeline.pin (pcfgs (F := F)) (adm m) p) c
  | 0 => dat0 m
  | 1 => dat1 m
  | 2 => dat2 m

/-! ## What each item leaves alone -/

/-- What each host stretch does not write it leaves, -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h
/-- and a region every array that is no output of its. -/
theorem W2_of (c : Dev nD) (r : Ref sig .tc) (h : ∀ w, Pipeline.arrRef spec0 w = r → (spec0 w).isOut = false) :
    W2 m c (Proc.devRef .tc r) = W1 m c (Proc.devRef .tc r) :=
  Pipeline.afterRegion_keeps (dat0 m c) (W1 m c) winFacts0.arr_inj (fun w => Encode.A_eq _ c w) r h
theorem W4_of (c : Dev nD) (r : Ref sig .tc) (h : ∀ w, Pipeline.arrRef spec1 w = r → (spec1 w).isOut = false) :
    W4 m c (Proc.devRef .tc r) = W3 m c (Proc.devRef .tc r) :=
  Pipeline.afterRegion_keeps (dat1 m c) (W3 m c) winFacts1.arr_inj (fun w => Score.A_eq _ _ c w) r h
theorem W6_of (c : Dev nD) (r : Ref sig .tc) (h : ∀ w, Pipeline.arrRef spec2 w = r → (spec2 w).isOut = false) :
    W6 m c (Proc.devRef .tc r) = W5 m c (Proc.devRef .tc r) :=
  Pipeline.afterRegion_keeps (dat2 m c) (W5 m c) winFacts2.arr_inj (fun w => Stats.A_eq _ c w) r h

/-- A buffer no item writes reaches the score pipeline as launched, -/
theorem W3_keeps (c : Dev nD) (r : Ref sig .tc) (h : r ∉ hostOps0_W ∧ r ∉ hostOps1_W ∧ ∀ w, Pipeline.arrRef spec0 w = r → (spec0 w).isOut = false) :
    W3 m c (Proc.devRef .tc r) = m ((c.tc : Thread nD τ).loc r) :=
  (W3_of m c r h.2.1).trans ((W2_of m c r h.2.2).trans (W1_of m c r h.1))

/-- and the end. -/
theorem W7_keeps (c : Dev nD) (r : Ref sig .tc) (h : (r ∉ hostOps0_W ∧ r ∉ hostOps1_W ∧ ∀ w, Pipeline.arrRef spec0 w = r → (spec0 w).isOut = false)
      ∧ r ∉ hostOps2_W ∧ r ∉ hostOps3_W ∧ (∀ w, Pipeline.arrRef spec1 w = r → (spec1 w).isOut = false) ∧ ∀ w, Pipeline.arrRef spec2 w = r → (spec2 w).isOut = false) :
    W7 m c (Proc.devRef .tc r) = m ((c.tc : Thread nD τ).loc r) :=
  (W7_of m c r h.2.2.1).trans ((W6_of m c r h.2.2.2.2).trans ((W5_of m c r h.2.1).trans ((W4_of m c r h.2.2.2.1).trans (W3_keeps m c r h.1))))

/-! ## The segments -/

/-- No core owes another anything: every level is zero. -/
abbrev L : GSem nD τ sig → Finset Unit := fun g => if g.1.2 = .tc then Finset.univ else ∅
abbrev lv : GSem nD τ sig → Unit → ℕ := fun _ _ => 0

/-- What rides beside the buffers: what the core owes, and its random-number register. -/
abbrev R (c : Dev nD) : sProp 𝕄 :=
  iprop((∃ Wd, owes (c : Thread nD τ) (0 : CellTallies nD τ sig Unit) Wd) ∗ (∃ r, prngReg c r) ∗ emp)

/-- The host stretches. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
def seg1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
def seg2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) R
def seg3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) R

/-- Every level is zero and nothing is owed, so the staging waits sit at the cut. -/
theorem cut (p : Fin 3) : Pipeline.LevelCut (nD := nD) (τ := τ) (pcfgs (F := F)) (adm m) () L lv p (fun _ => 0) (fun _ => 0) where
  hι c w s := by simp [L]
  hιb c w s := le_refl _
  hD c g i h := absurd h (Nat.lt_irrefl 0)

/-- The prefetched table holds the page lengths as launched when the score pipeline is entered. -/
theorem tables (c : Dev nD) (k : Fin pre1.K) : (adm m 1).1 k = W3 m c (Proc.devRef .tc (pre1.ref k)) := by
  obtain rfl : c = 0 := Subsingleton.elim _ _
  obtain rfl : k = (0 : Fin 1) := Subsingleton.elim (α := Fin 1) _ _
  exact (W3_keeps m 0 main_arg9 (by decide)).symm

set_option backward.isDefEq.respectTransparency.types false in
/-- The encoder's region. -/
def reg0 : RegionSeg (pcfgs (F := F)) (adm m) (pdats m) () defs₀ Variants.none L lv 0 :=
  RegionSeg.ofHeldIn (pcfgs (F := F)) (adm m) (pdats m) () defs₀ Variants.none L lv 0 (fun _ => 0) (Pipeline.ucRefs τ sig)
    (fun c => iprop(∃ r, prngReg c r)) (fun c => iprop(∃ r, prngReg c r)) launch0 rfl
    (fun c => (Encode.body_obligation (fun c b => W1 m c (Proc.devRef .tc b)) c).loose) (fun _ _ => rfl) (fun _ => rfl)
    (fun c => (dat0 m c).share_full fun _ => rfl) (fun _ => .rfl) (fun _ => .rfl) (fun _ => 0) (cut m 0) (fun _ => iprop(emp)) (W1 m)
    (fun c w => Encode.A_eq (fun c b => W1 m c (Proc.devRef .tc b)) c w)

set_option backward.isDefEq.respectTransparency.types false in
/-- The score kernel's region. -/
def reg1 : RegionSeg (pcfgs (F := F)) (adm m) (pdats m) () defs₀ Variants.none L lv 1 :=
  RegionSeg.ofHeldInT (pcfgs (F := F)) (adm m) (pdats m) () defs₀ Variants.none L lv 1 (fun _ => 0) (Pipeline.ucRefs τ sig)
    (fun c => iprop(∃ r, prngReg c r)) (fun c => iprop(∃ r, prngReg c r)) launch1
    (fun c => (Score.body_obligation (fun c b => W3 m c (Proc.devRef .tc b)) (adm m 1) c).loose) (fun _ _ => rfl) (fun _ => rfl)
    (fun c => (dat1 m c).share_full fun _ => rfl) (fun _ => .rfl) (fun _ => .rfl) (fun _ => 0) (cut m 1) (fun _ => iprop(emp)) (W3 m)
    (fun c w => Score.A_eq (fun c b => W3 m c (Proc.devRef .tc b)) (adm m 1) c w) (fun c k => tables m c k)

set_option backward.isDefEq.respectTransparency.types false in
/-- The statistics kernel's region. -/
def reg2 : RegionSeg (pcfgs (F := F)) (adm m) (pdats m) () defs₀ Variants.none L lv 2 :=
  RegionSeg.ofHeldIn (pcfgs (F := F)) (adm m) (pdats m) () defs₀ Variants.none L lv 2 (fun _ => 0) (Pipeline.ucRefs τ sig)
    (fun c => iprop(∃ r, prngReg c r)) (fun c => iprop(∃ r, prngReg c r)) launch2 rfl
    (fun c => (Stats.body_obligation (fun c b => W5 m c (Proc.devRef .tc b)) c).loose) (fun _ _ => rfl) (fun _ => rfl)
    (fun c => (dat2 m c).share_full fun _ => rfl) (fun _ => .rfl) (fun _ => .rfl) (fun _ => 0) (cut m 2) (fun _ => iprop(emp)) (W5 m)
    (fun c w => Stats.A_eq (fun c b => W5 m c (Proc.devRef .tc b)) c w)

/-! Each region is entered from the valuation before it and left at the one after it. -/

set_option backward.isDefEq.respectTransparency.types false in
theorem reg0_pre (c : Dev nD) : iprop(StableHlo.held (c : Thread nD τ) (Pipeline.ucRefs τ sig) (W1 m c) ∗ R c) ⊢ (reg0 m).pre c := by
  unfold reg0
  refine BI.Entails.trans ?_ (RegionSeg.ofHeldIn_pre (pcs := pcfgs (F := F)) (a := adm m) (pdats := pdats m) (p := 0) (Pipeline.arrRefs_sub_ucRefs spec0 (by decide)) c)
  exact BI.Entails.refl _

set_option backward.isDefEq.respectTransparency.types false in
theorem reg0_post (c : Dev nD) : (reg0 m).post c ⊢ iprop(StableHlo.held (c : Thread nD τ) (Pipeline.ucRefs τ sig) (W2 m c) ∗ R c) := by
  unfold reg0
  refine BI.Entails.trans (RegionSeg.ofHeldIn_post (pcs := pcfgs (F := F)) (a := adm m) (pdats := pdats m) (p := 0) (Pipeline.arrRefs_sub_ucRefs spec0 (by decide)) c) ?_
  exact BI.Entails.refl _

set_option backward.isDefEq.respectTransparency.types false in
theorem reg1_pre (c : Dev nD) : iprop(StableHlo.held (c : Thread nD τ) (Pipeline.ucRefs τ sig) (W3 m c) ∗ R c) ⊢ (reg1 m).pre c := by
  unfold reg1
  refine BI.Entails.trans ?_ (RegionSeg.ofHeldInT_pre (pcs := pcfgs (F := F)) (a := adm m) (pdats := pdats m) (p := 1) (Pipeline.arrRefs_sub_ucRefs spec1 (by decide)) (Pipeline.tblRefs_sub_ucRefs pre1 (by decide)) c)
  exact BI.Entails.refl _

set_option backward.isDefEq.respectTransparency.types false in
theorem reg1_post (c : Dev nD) : (reg1 m).post c ⊢ iprop(StableHlo.held (c : Thread nD τ) (Pipeline.ucRefs τ sig) (W4 m c) ∗ R c) := by
  unfold reg1
  refine BI.Entails.trans (RegionSeg.ofHeldInT_post (pcs := pcfgs (F := F)) (a := adm m) (pdats := pdats m) (p := 1) (Pipeline.arrRefs_sub_ucRefs spec1 (by decide)) (Pipeline.tblRefs_sub_ucRefs pre1 (by decide)) c) ?_
  exact BI.Entails.refl _

set_option backward.isDefEq.respectTransparency.types false in
theorem reg2_pre (c : Dev nD) : iprop(StableHlo.held (c : Thread nD τ) (Pipeline.ucRefs τ sig) (W5 m c) ∗ R c) ⊢ (reg2 m).pre c := by
  unfold reg2
  refine BI.Entails.trans ?_ (RegionSeg.ofHeldIn_pre (pcs := pcfgs (F := F)) (a := adm m) (pdats := pdats m) (p := 2) (Pipeline.arrRefs_sub_ucRefs spec2 (by decide)) c)
  exact BI.Entails.refl _

set_option backward.isDefEq.respectTransparency.types false in
theorem reg2_post (c : Dev nD) : (reg2 m).post c ⊢ iprop(StableHlo.held (c : Thread nD τ) (Pipeline.ucRefs τ sig) (W6 m c) ∗ R c) := by
  unfold reg2
  refine BI.Entails.trans (RegionSeg.ofHeldIn_post (pcs := pcfgs (F := F)) (a := adm m) (pdats := pdats m) (p := 2) (Pipeline.arrRefs_sub_ucRefs spec2 (by decide)) c) ?_
  exact BI.Entails.refl _

/-- @main as the list of them. -/
abbrev segs : List (Seg (pcfgs (F := F)) (adm m) (pdats m) () defs₀ Variants.none L lv) :=
  [.host (seg0 m), .region (reg0 m), .host (seg1 m), .region (reg1 m), .host (seg2 m), .region (reg2 m), .host (seg3 m)]

/-- The staging cells and the pipelines' transfers at launch. -/
def u₀ : UR sig nD τ :=
  initOf (Pipeline.cells (Pipeline.pin (pcfgs (F := F)) (adm m)) (cellOf_inj (adm m))) (Pipeline.launchToks (Pipeline.pin (pcfgs (F := F)) (adm m)) (cellOf_inj (adm m)))

set_option backward.isDefEq.respectTransparency.types false in
set_option maxHeartbeats 2000000 in
/-- The run: every execution ends, with every counter at zero and each unscoped buffer at the last valuation. -/
theorem run (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W7 m c (Proc.devRef .tc b))
      ∧ r.2.sem = fun _ => 0) :=
  Pipeline.θ_run_regions_kit_sems (pcfgs (F := F)) (adm m) (pdats m) () (cellOf_inj (adm m)) emb₁ defs₀ Variants.none L lv m ρ main (segs m)
    (fun c Q => by rw [main_segs (adm m) (pdats m) () Variants.none L lv (seg0 m) (seg1 m) (seg2 m) (seg3 m) (reg0 m) (reg1 m) (reg2 m) rfl rfl rfl rfl c])
    (by simp only [Seg.pipes_host, Seg.pipes_region, Seg.pipes_nil]; decide) (O₀ := 0) (hL := fun g hg => if_neg hg)
    (G := fun _ => iprop(emp)) (u₀ := u₀ m)
    (hu₀ := by
      iintro Hu
      imodintro
      isplitl [Hu]
      · iapply (show (ownU _ : sProp 𝕄) ⊢ BI.own (emb₁ (u₀ m)) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W7 m c))
    (hch := ⟨fun _ => .rfl, reg0_pre m, reg0_post m, reg1_pre m, reg1_post m, reg2_pre m, reg2_post m,
      fun c => sep_mono .rfl (show R c ⊢ iprop(∃ Wd, owes (c : Thread nD τ) (0 : CellTallies nD τ sig Unit) Wd) from by
        iintro ⟨H, -, -⟩; iexact H)⟩)
    (hinit := by
      refine Pipeline.initEach L lv fun c => ?_
      rw [show unscopedBufs c (fun b => m ((c : Thread nD τ).loc b)) = StableHlo.held (c : Thread nD τ) (Pipeline.ucRefs τ sig) (W0 m c) from
        Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b : Ref sig .tc, b.isScoped = false → s.mem ((c.tc : Thread nD τ).loc b) = W7 m c (Proc.devRef .tc b))
    (hfin := fun c s' => by
      unfold StableHlo.held
      iintro ⟨Hh, HSI⟩
      ihave Hr := (pointsTo_read_all (Pipeline.ucRefs τ sig) (fun b => ((c : Thread nD τ).1, b)) (W7 m c) s') $$ [Hh HSI]
      · isplitl [Hh] <;> iassumption
      icases Hr with ⟨%h, HSI⟩
      imodintro
      isplitr
      · ipureintro
        exact fun b hb => h (Proc.devRef .tc b) (Finset.mem_filter.mpr ⟨StableHlo.devRef_mem_tcRefs b, fun h' => Bool.false_ne_true (hb.symm.trans h')⟩)
      · iexact HSI)
    (hQ := fun _ h hz => ⟨h, funext fun g => hz g (.inr (regions_no_unscoped g.2))⟩)

end Cert.Kernel.Own

end
-- ==== Proof.KernelIdeal.Stats.lean ====
/-
  The statistics kernel (`cc2_stats`) as a pipeline of one point: what its body leaves in each output, as the generated
  payloads of the input blocks, and the body obligation.
-/
module

public import proofs.«01_k».proof.Proof.Store
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Own.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- On whole staging memrefs, the inputs' at their contents and the outputs' at anything, the body runs to a continuation
    that holds the inputs' as they were and each output's at its payload. -/
theorem run (c : Dev nD) (arg0 : Memref sig .tc .vmem S6x24x4096 .f32) (harg0 : arg0.IsWhole) (arg1 : Memref sig .tc .vmem S6x1 .f32) (harg1 : arg1.IsWhole) (arg2 : Memref sig .tc .vmem S6x4096 .f32) (harg2 : arg2.IsWhole) (arg3 : Memref sig .tc .vmem S6x1 .f32) (harg3 : arg3.IsWhole) (arg4 : Memref sig .tc .vmem S6x1 .f32) (harg4 : arg4.IsWhole)
    (x0 : Vec F S6x24x4096 .f32) (x1 : Vec F S6x1 .f32) (E : Set ℕ) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (k2_pay1 x0) ∗ owns (c : Thread nD τ) arg3 fullShare (k2_pay2 x0) ∗ owns (c : Thread nD τ) arg4 fullShare (k2_pay3 x0 x1)) -∗ K ⟨⟩))
      ⊢ wp frame (wpE (defs₀ (F := F)) Variants.none c none) E (cc2_stats arg0 harg0 arg1 harg1 arg2 harg2 arg3 harg3 arg4 harg4) K := by
  simp only [cc2_stats_eq_skeleton]; unfold cc2_stats_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg0.eq_unread hf0; obtain rfl := harg1.eq_unread hf1
  have hx0 := Cert.Own.load_whole arg0.view (harg0.unread x0) inb_S6x24x4096_S6x24x4096_0_0_0 x0 hf0 (by decide)
  have hx1 := Cert.Own.load_whole arg1.view (harg1.unread x1) inb_S6x1_S6x1_0_0 x1 hf1 (by decide)
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (Cert.Own.read_store _ _ _ _ (by decide)).trans ?_
    simp only [hx0]
  isplitl [H3]
  · iexists _; isplitr; swap; · iexact H3
    ipureintro
    refine (Cert.Own.read_store _ _ _ _ (by decide)).trans ?_
    simp only [hx0]
  · iexists _; isplitr; swap; · iexact H4
    ipureintro
    refine (Cert.Own.read_store _ _ _ _ (by decide)).trans ?_
    simp only [hx0, hx1]

/-! ## The pipeline's proof data -/

/-- The region's invariant on core `c`: its other scoped buffers and the random-number register. -/
def ΦK (c : Dev nD) : sProp 𝕄 :=
  iprop(Pipeline.scopedRest (Ix := Unit) (Name := ℕ) (U := UR sig nD τ) (Lvl := ℕ) (Val := Elt F) spec2 c ∗ ∃ r, prngReg c r)

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data on core `c`: the arrays as the region finds them; after the body each input's buffer at its block and
    each output's at its payload of the input blocks; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay1 (iblk V c 0 t)
    | ⟨3, _⟩ => k2_pay2 (iblk V c 0 t)
    | ⟨4, _⟩ => k2_pay3 (iblk V c 0 t) (iblk V c 1 t)
  Φ _ := ΦK c
  q _ := fullShare
  owed _ := 0

/-- The arrays are the region-entry contents. -/
theorem A_eq (c : Dev nD) (w : Fin cfg2.W) : (dat V c).A w = V c (Pipeline.arrRef spec2 w) := by
  dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = k2_pay1 (iblk V c 0 t) := by dsimp only [dat]
theorem after_3 (c : Dev nD) (t : Fin cfg2.N) : (dat V c).after 3 t = k2_pay2 (iblk V c 0 t) := by dsimp only [dat]
theorem after_4 (c : Dev nD) (t : Fin cfg2.N) : (dat V c).after 4 t = k2_pay3 (iblk V c 0 t) (iblk V c 1 t) := by dsimp only [dat]

/-- Each input's current staging buffer holds its block. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (win2_0.stage (cfg2.slots t 0)) fullShare ((dat V c).before 0 t d))
    ∗ (∃ d, owns (c : Thread nD τ) (win2_1.stage (cfg2.slots t 1)) fullShare ((dat V c).before 1 t d))
    ∗ (∃ d, owns (c : Thread nD τ) (win2_2.stage (cfg2.slots t 2)) fullShare ((dat V c).before 2 t d))
    ∗ (∃ d, owns (c : Thread nD τ) (win2_3.stage (cfg2.slots t 3)) fullShare ((dat V c).before 3 t d))
    ∗ (∃ d, owns (c : Thread nD τ) (win2_4.stage (cfg2.slots t 4)) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (win2_0.stage (cfg2.slots t 0)) fullShare ((dat V c).after 0 t)
    ∗ owns (c : Thread nD τ) (win2_1.stage (cfg2.slots t 1)) fullShare ((dat V c).after 1 t)
    ∗ owns (c : Thread nD τ) (win2_2.stage (cfg2.slots t 2)) fullShare ((dat V c).after 2 t)
    ∗ owns (c : Thread nD τ) (win2_3.stage (cfg2.slots t 3)) fullShare ((dat V c).after 3 t)
    ∗ owns (c : Thread nD τ) (win2_4.stage (cfg2.slots t 4)) fullShare ((dat V c).after 4 t))

/-- The body at any point: the inputs' memrefs hold their blocks, so the run applies; the invariant passes through. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (run c _ _ _ _ _ _ _ _ _ _ (iblk V c 0 t) (iblk V c 1 t) Set.univ _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as the schedule spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Cert.KernelIdeal.Own.Stats

end
-- ==== Proof.KernelIdeal.Encode.lean ====
/-
  The encoding kernel (`cc0_encode`) as a pipeline of one point: what its body leaves in each output, as the generated
  payloads of the input blocks, and the body obligation.
-/
module

public import proofs.«01_k».proof.Proof.Store
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Own.Encode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- On whole staging memrefs, the inputs' at their contents and the outputs' at anything, the body runs to a continuation
    that holds the inputs' as they were and each output's at its payload. -/
theorem run (c : Dev nD) (arg0 : Memref sig .tc .vmem S144x2048 .bf16) (harg0 : arg0.IsWhole) (arg1 : Memref sig .tc .vmem S1x2048 .f32) (harg1 : arg1.IsWhole) (arg2 : Memref sig .tc .vmem S2048x128 .i8) (harg2 : arg2.IsWhole) (arg3 : Memref sig .tc .vmem S1x128 .f32) (harg3 : arg3.IsWhole) (arg4 : Memref sig .tc .vmem S1x128 .f32) (harg4 : arg4.IsWhole) (arg5 : Memref sig .tc .vmem S144x2048 .i8) (harg5 : arg5.IsWhole) (arg6 : Memref sig .tc .vmem S144x1 .f32) (harg6 : arg6.IsWhole) (arg7 : Memref sig .tc .vmem S144x128 .f32) (harg7 : arg7.IsWhole) (arg8 : Memref sig .tc .vmem S144x128 .f32) (harg8 : arg8.IsWhole) (arg9 : Memref sig .tc .vmem S144x128 .i8) (harg9 : arg9.IsWhole) (arg10 : Memref sig .tc .vmem S144x1 .f32) (harg10 : arg10.IsWhole)
    (x0 : Vec F S144x2048 .bf16) (x1 : Vec F S1x2048 .f32) (x2 : Vec F S2048x128 .i8) (x3 : Vec F S1x128 .f32) (x4 : Vec F S1x128 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k0_pay4 x0 x1) ∗ owns (c : Thread nD τ) arg6 fullShare (k0_pay2 x0 x1) ∗ owns (c : Thread nD τ) arg7 fullShare (k0_pay7 (k0_pay2 x0 x1) (k0_pay5 x0 x1) (k0_pay6 x2) x3 x4) ∗ owns (c : Thread nD τ) arg8 fullShare (k0_pay8 (k0_pay2 x0 x1) (k0_pay5 x0 x1) (k0_pay6 x2) x3 x4) ∗ owns (c : Thread nD τ) arg9 fullShare (k0_pay10 (k0_pay2 x0 x1) (k0_pay5 x0 x1) (k0_pay6 x2) x3 x4) ∗ owns (c : Thread nD τ) arg10 fullShare (k0_pay9 (k0_pay2 x0 x1) (k0_pay5 x0 x1) (k0_pay6 x2) x3 x4)) -∗ K ⟨⟩))
      ⊢ wp frame (wpE (defs₀ (F := F)) Variants.none c none) E (cc0_encode arg0 harg0 arg1 harg1 arg2 harg2 arg3 harg3 arg4 harg4 arg5 harg5 arg6 harg6 arg7 harg7 arg8 harg8 arg9 harg9 arg10 harg10) K := by
  simp only [cc0_encode_eq_skeleton]; unfold cc0_encode_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg0.eq_unread hf0; obtain rfl := harg1.eq_unread hf1; obtain rfl := harg2.eq_unread hf2; obtain rfl := harg3.eq_unread hf3; obtain rfl := harg4.eq_unread hf4
  have hx0 := Cert.Own.load_whole arg0.view (harg0.unread x0) inb_S144x2048_S144x2048_0_0 x0 hf0 (by decide)
  have hx1 := Cert.Own.load_whole arg1.view (harg1.unread x1) inb_S1x2048_S1x2048_0_0 x1 hf1 (by decide)
  have hx2 := Cert.Own.load_whole arg2.view (harg2.unread x2) inb_S2048x128_S2048x128_0_0 x2 hf2 (by decide)
  have hx3 := Cert.Own.load_whole arg3.view (harg3.unread x3) inb_S1x128_S1x128_0_0 x3 hf3 (by decide)
  have hx4 := Cert.Own.load_whole arg4.view (harg4.unread x4) inb_S1x128_S1x128_0_0 x4 hf4 (by decide)
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (Cert.Own.read_store _ _ _ _ (by decide)).trans ?_
    simp only [hx0, hx1]
  isplitl [H6]
  · iexists _; isplitr; swap; · iexact H6
    ipureintro
    refine (Cert.Own.read_store _ _ _ _ (by decide)).trans ?_
    simp only [hx0, hx1]
  isplitl [H7]
  · iexists _; isplitr; swap; · iexact H7
    ipureintro
    refine (Cert.Own.read_store _ _ _ _ (by decide)).trans ?_
    simp only [hx0, hx1, hx2, hx3, hx4]
  isplitl [H8]
  · iexists _; isplitr; swap; · iexact H8
    ipureintro
    refine (Cert.Own.read_store _ _ _ _ (by decide)).trans ?_
    simp only [hx0, hx1, hx2, hx3, hx4]
  isplitl [H9]
  · iexists _; isplitr; swap; · iexact H9
    ipureintro
    refine (Cert.Own.read_store _ _ _ _ (by decide)).trans ?_
    simp only [hx0, hx1, hx2, hx3, hx4]
  · iexists _; isplitr; swap; · iexact H10
    ipureintro
    refine (Cert.Own.read_store _ _ _ _ (by decide)).trans ?_
    rfl

/-! ## The pipeline's proof data -/

/-- The region's invariant on core `c`: its other scoped buffers and the random-number register. -/
def ΦK (c : Dev nD) : sProp 𝕄 :=
  iprop(Pipeline.scopedRest (Ix := Unit) (Name := ℕ) (U := UR sig nD τ) (Lvl := ℕ) (Val := Elt F) spec0 c ∗ ∃ r, prngReg c r)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data on core `c`: the arrays as the region finds them; after the body each input's buffer at its block and
    each output's at its payload of the input blocks; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay4 (iblk V c 0 t) (iblk V c 1 t)
    | ⟨6, _⟩ => k0_pay2 (iblk V c 0 t) (iblk V c 1 t)
    | ⟨7, _⟩ => k0_pay7 (k0_pay2 (iblk V c 0 t) (iblk V c 1 t)) (k0_pay5 (iblk V c 0 t) (iblk V c 1 t)) (k0_pay6 (iblk V c 2 t)) (iblk V c 3 t) (iblk V c 4 t)
    | ⟨8, _⟩ => k0_pay8 (k0_pay2 (iblk V c 0 t) (iblk V c 1 t)) (k0_pay5 (iblk V c 0 t) (iblk V c 1 t)) (k0_pay6 (iblk V c 2 t)) (iblk V c 3 t) (iblk V c 4 t)
    | ⟨9, _⟩ => k0_pay10 (k0_pay2 (iblk V c 0 t) (iblk V c 1 t)) (k0_pay5 (iblk V c 0 t) (iblk V c 1 t)) (k0_pay6 (iblk V c 2 t)) (iblk V c 3 t) (iblk V c 4 t)
    | ⟨10, _⟩ => k0_pay9 (k0_pay2 (iblk V c 0 t) (iblk V c 1 t)) (k0_pay5 (iblk V c 0 t) (iblk V c 1 t)) (k0_pay6 (iblk V c 2 t)) (iblk V c 3 t) (iblk V c 4 t)
  Φ _ := ΦK c
  q _ := fullShare
  owed _ := 0

/-- The arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = k0_pay4 (iblk V c 0 t) (iblk V c 1 t) := by dsimp only [dat]
theorem after_6 (c : Dev nD) (t : Fin cfg0.N) : (dat V c).after 6 t = k0_pay2 (iblk V c 0 t) (iblk V c 1 t) := by dsimp only [dat]
theorem after_7 (c : Dev nD) (t : Fin cfg0.N) : (dat V c).after 7 t = k0_pay7 (k0_pay2 (iblk V c 0 t) (iblk V c 1 t)) (k0_pay5 (iblk V c 0 t) (iblk V c 1 t)) (k0_pay6 (iblk V c 2 t)) (iblk V c 3 t) (iblk V c 4 t) := by dsimp only [dat]
theorem after_8 (c : Dev nD) (t : Fin cfg0.N) : (dat V c).after 8 t = k0_pay8 (k0_pay2 (iblk V c 0 t) (iblk V c 1 t)) (k0_pay5 (iblk V c 0 t) (iblk V c 1 t)) (k0_pay6 (iblk V c 2 t)) (iblk V c 3 t) (iblk V c 4 t) := by dsimp only [dat]
theorem after_9 (c : Dev nD) (t : Fin cfg0.N) : (dat V c).after 9 t = k0_pay10 (k0_pay2 (iblk V c 0 t) (iblk V c 1 t)) (k0_pay5 (iblk V c 0 t) (iblk V c 1 t)) (k0_pay6 (iblk V c 2 t)) (iblk V c 3 t) (iblk V c 4 t) := by dsimp only [dat]
theorem after_10 (c : Dev nD) (t : Fin cfg0.N) : (dat V c).after 10 t = k0_pay9 (k0_pay2 (iblk V c 0 t) (iblk V c 1 t)) (k0_pay5 (iblk V c 0 t) (iblk V c 1 t)) (k0_pay6 (iblk V c 2 t)) (iblk V c 3 t) (iblk V c 4 t) := by dsimp only [dat]

/-- Each input's current staging buffer holds its block. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d))
    ∗ (∃ d, owns (c : Thread nD τ) (win0_5.stage (cfg0.slots t 5)) fullShare ((dat V c).before 5 t d))
    ∗ (∃ d, owns (c : Thread nD τ) (win0_6.stage (cfg0.slots t 6)) fullShare ((dat V c).before 6 t d))
    ∗ (∃ d, owns (c : Thread nD τ) (win0_7.stage (cfg0.slots t 7)) fullShare ((dat V c).before 7 t d))
    ∗ (∃ d, owns (c : Thread nD τ) (win0_8.stage (cfg0.slots t 8)) fullShare ((dat V c).before 8 t d))
    ∗ (∃ d, owns (c : Thread nD τ) (win0_9.stage (cfg0.slots t 9)) fullShare ((dat V c).before 9 t d))
    ∗ (∃ d, owns (c : Thread nD τ) (win0_10.stage (cfg0.slots t 10)) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (win0_0.stage (cfg0.slots t 0)) fullShare ((dat V c).after 0 t)
    ∗ owns (c : Thread nD τ) (win0_1.stage (cfg0.slots t 1)) fullShare ((dat V c).after 1 t)
    ∗ owns (c : Thread nD τ) (win0_2.stage (cfg0.slots t 2)) fullShare ((dat V c).after 2 t)
    ∗ owns (c : Thread nD τ) (win0_3.stage (cfg0.slots t 3)) fullShare ((dat V c).after 3 t)
    ∗ owns (c : Thread nD τ) (win0_4.stage (cfg0.slots t 4)) fullShare ((dat V c).after 4 t)
    ∗ owns (c : Thread nD τ) (win0_5.stage (cfg0.slots t 5)) fullShare ((dat V c).after 5 t)
    ∗ owns (c : Thread nD τ) (win0_6.stage (cfg0.slots t 6)) fullShare ((dat V c).after 6 t)
    ∗ owns (c : Thread nD τ) (win0_7.stage (cfg0.slots t 7)) fullShare ((dat V c).after 7 t)
    ∗ owns (c : Thread nD τ) (win0_8.stage (cfg0.slots t 8)) fullShare ((dat V c).after 8 t)
    ∗ owns (c : Thread nD τ) (win0_9.stage (cfg0.slots t 9)) fullShare ((dat V c).after 9 t)
    ∗ owns (c : Thread nD τ) (win0_10.stage (cfg0.slots t 10)) fullShare ((dat V c).after 10 t))

/-- The body at any point: the inputs' memrefs hold their blocks, so the run applies; the invariant passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c _ _ _ _ _ _ _ _ _ _ _ _ _ _ _ _ _ _ _ _ _ _ (iblk V c 0 t) (iblk V c 1 t) (iblk V c 2 t) (iblk V c 3 t) (iblk V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as the schedule spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Own.Encode

end
-- ==== Proof.KernelIdeal.Score.lean ====
/-
  The scoring kernel (`cc1_score`) as a pipeline of 32 points, each scoring the 128 pages of its block: the counted loop's
  carried value in closed form, what the body leaves in each output, and the body obligation. The table of page lengths is
  prefetched to scalar memory and held by the region's invariant.
-/
module

public import proofs.«01_k».proof.Proof.Store
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Own.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the entry contents of the region's arrays and of its table
variable (V : (c : Dev nD) → (b : Ref sig .tc) → Buf (Elt F) ((c : Thread nD τ).loc b))

/-! ## The loop over the block's pages -/

/-- The packed words of page `k` of the block. -/
def wordsAt (x5 : Vec F S128x4x1024 .i32) (k : Fin k1_t1_loop.trips) : Vec F S1x4x1024 .i32 :=
  View.ld x5 (Rect.unit (s := S128x4x1024) (k1_off1 k) S1x4x1024.size (k1_off1_inb k))

/-- The scales of page `k` of the block. -/
def scaleAt (x6 : Vec F S128x1024 .f32) (k : Fin k1_t1_loop.trips) : Vec F S1x1024 .f32 :=
  View.ld x6 (Rect.unit (s := S128x1024) (k1_off2 k) S1x1024.size (k1_off2_inb k))

/-- The length of page `k` of block `i`, out of the table. -/
def lenAt (x1 : Vec F S4096 .i32) (i : grid1.Coords) (k : Fin k1_t1_loop.trips) : Elt F .i32 :=
  View.ld x1 (Rect.unit (s := S4096) (k1_off3 i k) S1.size (k1_off3_inb i k)) (Shape.Idx.first (numel1_S1.symm ▸ Nat.one_pos))

/-- One trip: page `k`'s column put into the two carried matrices. -/
def trip (i : grid1.Coords) (x1 : Vec F S4096 .i32) (x2 : Vec F S144x128 .i8) (x5 : Vec F S128x4x1024 .i32) (x6 : Vec F S128x1024 .f32)
    (k : Fin k1_t1_loop.trips) (acc : FVec F S144x128 .f32 × FVec F S144x128 .f32) : FVec F S144x128 .f32 × FVec F S144x128 .f32 :=
  (k1_pay3 x2 k acc.1 (wordsAt x5 k) (scaleAt x6 k) (lenAt x1 i k), k1_pay4 x2 k acc.2 (wordsAt x5 k) (scaleAt x6 k))

/-- The carried matrices before trip `k`. -/
def st (i : grid1.Coords) (x1 : Vec F S4096 .i32) (x2 : Vec F S144x128 .i8) (x5 : Vec F S128x4x1024 .i32) (x6 : Vec F S128x1024 .f32) :
    ℕ → FVec F S144x128 .f32 × FVec F S144x128 .f32
  | 0 => (k1_pay1, k1_pay1)
  | k + 1 => if h : k < k1_t1_loop.trips then trip i x1 x2 x5 x6 ⟨k, h⟩ (st i x1 x2 x5 x6 k) else st i x1 x2 x5 x6 k

theorem st_succ (i : grid1.Coords) (x1 : Vec F S4096 .i32) (x2 : Vec F S144x128 .i8) (x5 : Vec F S128x4x1024 .i32) (x6 : Vec F S128x1024 .f32)
    (k : Fin k1_t1_loop.trips) : st i x1 x2 x5 x6 (k.val + 1) = trip i x1 x2 x5 x6 k (st i x1 x2 x5 x6 k.val) := by
  rw [st.eq_2]; exact dif_pos k.isLt

set_option maxHeartbeats 4000000 in
/-- One trip of the loop runs to the yield of `trip`, the buffers it reads as they were. -/
theorem trip_run (c : Dev nD) (i : grid1.Coords) (arg1 : Memref sig .tc .smem S4096 .i32) (harg1 : arg1.IsWhole) (arg2 : Memref sig .tc .vmem S144x128 .i8) (harg2 : arg2.IsWhole) (arg3 : Memref sig .tc .vmem S144x1 .f32) (harg3 : arg3.IsWhole) (arg4 : Memref sig .tc .vmem S144x1 .i32) (harg4 : arg4.IsWhole) (arg5 : Memref sig .tc .vmem S128x4x1024 .i32) (harg5 : arg5.IsWhole) (arg6 : Memref sig .tc .vmem S128x1024 .f32) (harg6 : arg6.IsWhole) (arg7 : Memref sig .tc .vmem S144x128 .f32) (harg7 : arg7.IsWhole) (arg8 : Memref sig .tc .vmem S144x128 .f32) (harg8 : arg8.IsWhole)
    (x1 : Vec F S4096 .i32) (x2 : Vec F S144x128 .i8) (x5 : Vec F S128x4x1024 .i32) (x6 : Vec F S128x1024 .f32)
    (k : Fin k1_t1_loop.trips) (acc : FVec F S144x128 .f32 × FVec F S144x128 .f32) (E : Set ℕ) :
    (iprop((arg1.view.loc (c : Thread nD τ) ↦[arg1.view.set]{fullShare} harg1.unread x1) ∗ (arg5.view.loc (c : Thread nD τ) ↦[arg5.view.set]{fullShare} harg5.unread x5) ∗ (arg6.view.loc (c : Thread nD τ) ↦[arg6.view.set]{fullShare} harg6.unread x6)) : sProp 𝕄)
      ⊢ wp frame (wpE (defs₀ (F := F)) Variants.none (c : Thread nD τ) none) E (k1_t1_body (F := F) i arg1 harg1 arg2 harg2 arg3 harg3 arg4 harg4 arg5 harg5 arg6 harg6 arg7 harg7 arg8 harg8 x2 k acc)
          (fun yld => iprop(⌜yld = trip i x1 x2 x5 x6 k acc⌝ ∗ (arg1.view.loc (c : Thread nD τ) ↦[arg1.view.set]{fullShare} harg1.unread x1) ∗ (arg5.view.loc (c : Thread nD τ) ↦[arg5.view.set]{fullShare} harg5.unread x5) ∗ (arg6.view.loc (c : Thread nD τ) ↦[arg6.view.set]{fullShare} harg6.unread x6))) := by
  have hk : k.val < 128 := Nat.lt_of_lt_of_le k.isLt k1_t1_abs.2.1
  unfold k1_t1_body
  iintro ⟨H1, H5, H6⟩
  sl_exec
  sl_step
  have e5 : View.readAt (Elt F) arg5.view (Rect.unit (s := S128x4x1024) (k1_off1 k) S1x4x1024.size (k1_off1_inb k)).toLoadRect (harg5.unread x5) = wordsAt x5 k := by
    unfold wordsAt; rw [View.readAt_eq_ld, harg5.read_unread]
  have e6 : View.readAt (Elt F) arg6.view (Rect.unit (s := S128x1024) (k1_off2 k) S1x1024.size (k1_off2_inb k)).toLoadRect (harg6.unread x6) = scaleAt x6 k := by
    unfold scaleAt; rw [View.readAt_eq_ld, harg6.read_unread]
  have e1 : trip_run.sl.r i arg1 harg1 x1 k = lenAt x1 i k := by
    unfold trip_run.sl.r lenAt; rw [View.readAt_eq_ld, harg1.read_unread]
  rw [e5, e6, e1]
  isplitr; · ipureintro; rfl
  isplitl [H1]; · iexact H1
  isplitl [H5]; · iexact H5
  iexact H6

set_option warn.classDefReducibility false in
/-- The loop's invariant before trip `k`: the table, the words and the scales as they were, the carried matrices at `st k`. -/
@[sl_loop] def loopInv (c : Dev nD) (E : Set ℕ) (i : grid1.Coords) (arg1 : Memref sig .tc .smem S4096 .i32) (harg1 : arg1.IsWhole) (arg2 : Memref sig .tc .vmem S144x128 .i8) (harg2 : arg2.IsWhole) (arg3 : Memref sig .tc .vmem S144x1 .f32) (harg3 : arg3.IsWhole) (arg4 : Memref sig .tc .vmem S144x1 .i32) (harg4 : arg4.IsWhole) (arg5 : Memref sig .tc .vmem S128x4x1024 .i32) (harg5 : arg5.IsWhole) (arg6 : Memref sig .tc .vmem S128x1024 .f32) (harg6 : arg6.IsWhole) (arg7 : Memref sig .tc .vmem S144x128 .f32) (harg7 : arg7.IsWhole) (arg8 : Memref sig .tc .vmem S144x128 .f32) (harg8 : arg8.IsWhole)
    (x1 : Vec F S4096 .i32) (x2 : Vec F S144x128 .i8) (x5 : Vec F S128x4x1024 .i32) (x6 : Vec F S128x1024 .f32) :
    Idealize.ShloMosaic.LoopInv (M := 𝕄) Idealize.ShloMosaic.frame (wpE (defs₀ (F := F)) Variants.none (c : Thread nD τ) none) E
      k1_t1_loop.lb k1_t1_loop.ub k1_t1_loop.st k1_t1_ok (k1_pay1 (F := F), k1_pay1 (F := F)) (k1_t1_body (F := F) i arg1 harg1 arg2 harg2 arg3 harg3 arg4 harg4 arg5 harg5 arg6 harg6 arg7 harg7 arg8 harg8 x2) where
  inv k acc := iprop((arg1.view.loc (c : Thread nD τ) ↦[arg1.view.set]{fullShare} harg1.unread x1) ∗ (arg5.view.loc (c : Thread nD τ) ↦[arg5.view.set]{fullShare} harg5.unread x5) ∗ (arg6.view.loc (c : Thread nD τ) ↦[arg6.view.set]{fullShare} harg6.unread x6) ∗ ⌜acc = st i x1 x2 x5 x6 k⌝)
  step k acc := by
    iintro ⟨H1, H5, H6, %hacc⟩
    subst hacc
    iapply (wp_wand_r Idealize.ShloMosaic.frame (wpE (defs₀ (F := F)) Variants.none (c : Thread nD τ) none) E)
    isplitl [H1 H5 H6]
    · iapply (trip_run c i arg1 harg1 arg2 harg2 arg3 harg3 arg4 harg4 arg5 harg5 arg6 harg6 arg7 harg7 arg8 harg8 x1 x2 x5 x6 k (st i x1 x2 x5 x6 k) E)
      isplitl [H1]; · iexact H1
      isplitl [H5]; · iexact H5
      iexact H6
    · iintro %yld ⟨%h, H1, H5, H6⟩
      isplitl [H1]; · iexact H1
      isplitl [H5]; · iexact H5
      isplitl [H6]; · iexact H6
      ipureintro; rw [h, st_succ]

/-- The loop makes 128 trips. -/
theorem trips_eq : Scf.trips k1_t1_loop.lb k1_t1_loop.ub k1_t1_loop.st = 128 := by decide +kernel

set_option maxHeartbeats 4000000 in
/-- On the table and whole staging memrefs, the inputs' at their contents and the outputs' at anything, the body runs to a
    continuation that holds the inputs' as they were and each output's at its payload. -/
theorem run (c : Dev nD) (i : grid1.Coords) (arg1 : Memref sig .tc .smem S4096 .i32) (harg1 : arg1.IsWhole) (arg2 : Memref sig .tc .vmem S144x128 .i8) (harg2 : arg2.IsWhole) (arg3 : Memref sig .tc .vmem S144x1 .f32) (harg3 : arg3.IsWhole) (arg4 : Memref sig .tc .vmem S144x1 .i32) (harg4 : arg4.IsWhole) (arg5 : Memref sig .tc .vmem S128x4x1024 .i32) (harg5 : arg5.IsWhole) (arg6 : Memref sig .tc .vmem S128x1024 .f32) (harg6 : arg6.IsWhole) (arg7 : Memref sig .tc .vmem S144x128 .f32) (harg7 : arg7.IsWhole) (arg8 : Memref sig .tc .vmem S144x128 .f32) (harg8 : arg8.IsWhole)
    (x1 : Vec F S4096 .i32) (x2 : Vec F S144x128 .i8) (x3 : Vec F S144x1 .f32) (x4 : Vec F S144x1 .i32) (x5 : Vec F S128x4x1024 .i32) (x6 : Vec F S128x1024 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k1_pay6 (st i x1 x2 x5 x6 128).1 x4 x3) ∗ owns (c : Thread nD τ) arg8 fullShare (k1_pay7 (st i x1 x2 x5 x6 128).2 x4 x3)) -∗ K ⟨⟩))
      ⊢ wp frame (wpE (defs₀ (F := F)) Variants.none c none) E (cc1_score i arg1 harg1 arg2 harg2 arg3 harg3 arg4 harg4 arg5 harg5 arg6 harg6 arg7 harg7 arg8 harg8) K := by
  simp only [cc1_score_eq_skeleton]; unfold cc1_score_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  have hx2 := Cert.Own.load_whole arg2.view (harg2.unread x2) inb_S144x128_S144x128_0_0 x2 hf2 (by decide)
  have hx3 := Cert.Own.load_whole arg3.view (harg3.unread x3) inb_S144x1_S144x1_0_0 x3 hf3 (by decide)
  have hx4 := Cert.Own.load_whole arg4.view (harg4.unread x4) inb_S144x1_S144x1_0_0 x4 hf4 (by decide)
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    refine (Cert.Own.read_store _ _ _ _ (by decide)).trans ?_
    rw [trips_eq]
  · iexists _; isplitr; swap; · iexact H8
    ipureintro
    refine (Cert.Own.read_store _ _ _ _ (by decide)).trans ?_
    rw [trips_eq]

/-! ## The pipeline's proof data -/

variable (a : (pcfg1 (F := F)).Adm)

/-- The table of page lengths. -/
abbrev tab : Vec F S4096 .i32 := a.1 0

/-- The region's invariant on core `c`: its other scoped buffers, the random-number register and the table. -/
def ΦK (c : Dev nD) : sProp 𝕄 :=
  iprop(iprop(Pipeline.scopedRest (Ix := Unit) (Name := ℕ) (U := UR sig nD τ) (Lvl := ℕ) (Val := Elt F) spec1 c ∗ ∃ r, prngReg c r)
    ∗ Pipeline.prefHeld pre1 c (fun _ => fullShare) a.1)

/-- The prefetched table, held, is its memref owned. -/
theorem prefHeld_eq (c : Dev nD) :
    (Pipeline.prefHeld pre1 c (fun _ => fullShare) a.1 : sProp 𝕄) = owns (c : Thread nD τ) (Memref.whole main_arg9) fullShare (tab a) := by
  unfold Pipeline.prefHeld
  rw [bigSep_univ_eq_bigSepL [(0 : Fin 1)] (by decide) (by decide)]
  rw [owns_whole_eq]
  refine BI.Entails.antisymm (show (((c.tc : Thread nD τ).loc main_arg9) ↦{fullShare} (tab a) : sProp 𝕄) ⊢ _ from ?_)
    (show _ ⊢ (((c.tc : Thread nD τ).loc main_arg9) ↦{fullShare} (tab a) : sProp 𝕄) from ?_)
  · iintro H
    iexists _
    isplitr; · ipureintro; rfl
    iexact H
  · iintro ⟨%f, %hf, H⟩
    subst hf
    iexact H

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The carried matrices after the block's 128 pages, at point `t`. -/
def best (c : Dev nD) (t : Fin (cfg1 a).N) : FVec F S144x128 .f32 × FVec F S144x128 .f32 :=
  st (grid1.coords t) (tab a) (iblk V a c 0 t) (iblk V a c 3 t) (iblk V a c 4 t) 128

/-- The proof data on core `c`: the arrays as the region finds them; after the body each input's buffer at its block and
    each output's at its payload; nothing owed; full shares. -/
def dat (c : Dev nD) : Dat τ (Elt F) Unit ℕ (UR sig nD τ) ℕ (cfg1 a) c where
  A w := V c (Pipeline.arrRef spec1 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => k1_pay6 (best V a c t).1 (iblk V a c 2 t) (iblk V a c 1 t)
    | ⟨6, _⟩ => k1_pay7 (best V a c t).2 (iblk V a c 2 t) (iblk V a c 1 t)
  Φ _ := ΦK a c
  q _ := fullShare
  owed _ := 0

/-- The arrays are the region-entry contents. -/
theorem A_eq (c : Dev nD) (w : Fin (cfg1 a).W) : (dat V a c).A w = V c (Pipeline.arrRef spec1 w) := by
  dsimp only [dat]

/-- What the body leaves, window by window. -/
theorem after_0 (c : Dev nD) (t : Fin (cfg1 a).N) : (dat V a c).after 0 t = iblk V a c 0 t := rfl
theorem after_1 (c : Dev nD) (t : Fin (cfg1 a).N) : (dat V a c).after 1 t = iblk V a c 1 t := rfl
theorem after_2 (c : Dev nD) (t : Fin (cfg1 a).N) : (dat V a c).after 2 t = iblk V a c 2 t := rfl
theorem after_3 (c : Dev nD) (t : Fin (cfg1 a).N) : (dat V a c).after 3 t = iblk V a c 3 t := rfl
theorem after_4 (c : Dev nD) (t : Fin (cfg1 a).N) : (dat V a c).after 4 t = iblk V a c 4 t := rfl
theorem after_5 (c : Dev nD) (t : Fin (cfg1 a).N) : (dat V a c).after 5 t = k1_pay6 (best V a c t).1 (iblk V a c 2 t) (iblk V a c 1 t) := rfl
theorem after_6 (c : Dev nD) (t : Fin (cfg1 a).N) : (dat V a c).after 6 t = k1_pay7 (best V a c t).2 (iblk V a c 2 t) (iblk V a c 1 t) := rfl

/-- Each input's current staging buffer holds its block. -/
theorem before_0 (c : Dev nD) (t : Fin (cfg1 a).N) (d) : (dat V a c).before 0 t d = iblk V a c 0 t :=
  ((dat V a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat V a c).before 1 t d = iblk V a c 1 t :=
  ((dat V a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg1 a).N) (d) : (dat V a c).before 2 t d = iblk V a c 2 t :=
  ((dat V a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg1 a).N) (d) : (dat V a c).before 3 t d = iblk V a c 3 t :=
  ((dat V a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg1 a).N) (d) : (dat V a c).before 4 t d = iblk V a c 4 t :=
  ((dat V a c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The body as the pipeline calls it at point `t`. -/
abbrev bodyAt (t : Fin (cfg1 a).N) : Prog (TpuEff nD τ sig (Elt F) Λ₀ .tc) PUnit :=
  cc1_score (grid1.coords t) (Memref.whole main_arg9) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6))

/-- What the body is called with at point `t`, the windows one by one, -/
def bodyPre (c : Dev nD) (t : Fin (cfg1 a).N) : sProp 𝕄 :=
  iprop((dat V a c).Φ t.castSucc ∗ (dat V a c).owesAt () t.castSucc
    ∗ (∃ d, owns (c : Thread nD τ) (spec1_0.stage ((cfg1 a).slots t 0)) fullShare ((dat V a c).before 0 t d))
    ∗ (∃ d, owns (c : Thread nD τ) (spec1_1.stage ((cfg1 a).slots t 1)) fullShare ((dat V a c).before 1 t d))
    ∗ (∃ d, owns (c : Thread nD τ) (spec1_2.stage ((cfg1 a).slots t 2)) fullShare ((dat V a c).before 2 t d))
    ∗ (∃ d, owns (c : Thread nD τ) (spec1_3.stage ((cfg1 a).slots t 3)) fullShare ((dat V a c).before 3 t d))
    ∗ (∃ d, owns (c : Thread nD τ) (spec1_4.stage ((cfg1 a).slots t 4)) fullShare ((dat V a c).before 4 t d))
    ∗ (∃ d, owns (c : Thread nD τ) (spec1_5.stage ((cfg1 a).slots t 5)) fullShare ((dat V a c).before 5 t d))
    ∗ (∃ d, owns (c : Thread nD τ) (spec1_6.stage ((cfg1 a).slots t 6)) fullShare ((dat V a c).before 6 t d)))

/-- and what it returns. -/
def bodyPost (c : Dev nD) (t : Fin (cfg1 a).N) : sProp 𝕄 :=
  iprop((dat V a c).Φ t.succ ∗ (dat V a c).owesAt () t.succ
    ∗ owns (c : Thread nD τ) (spec1_0.stage ((cfg1 a).slots t 0)) fullShare ((dat V a c).after 0 t)
    ∗ owns (c : Thread nD τ) (spec1_1.stage ((cfg1 a).slots t 1)) fullShare ((dat V a c).after 1 t)
    ∗ owns (c : Thread nD τ) (spec1_2.stage ((cfg1 a).slots t 2)) fullShare ((dat V a c).after 2 t)
    ∗ owns (c : Thread nD τ) (spec1_3.stage ((cfg1 a).slots t 3)) fullShare ((dat V a c).after 3 t)
    ∗ owns (c : Thread nD τ) (spec1_4.stage ((cfg1 a).slots t 4)) fullShare ((dat V a c).after 4 t)
    ∗ owns (c : Thread nD τ) (spec1_5.stage ((cfg1 a).slots t 5)) fullShare ((dat V a c).after 5 t)
    ∗ owns (c : Thread nD τ) (spec1_6.stage ((cfg1 a).slots t 6)) fullShare ((dat V a c).after 6 t))

/-- The body at any point: the inputs' memrefs hold their blocks and the invariant the table, so the run applies. -/
theorem sound_body (c : Dev nD) (t : Fin (cfg1 a).N) :
    bodyPre V a c t ⊢ wp frame (wpE (defs₀ (F := F)) Variants.none c none) Set.univ (bodyAt a t) (fun _ => bodyPost V a c t) := by
  unfold bodyPre bodyPost bodyAt
  simp only [before_0, before_1, before_2, before_3, before_4]
  rw [show (dat V a c).Φ t.succ = ΦK a c from rfl, show (dat V a c).Φ t.castSucc = ΦK a c from rfl,
    show (dat V a c).owesAt () t.succ = (dat V a c).owesAt () t.castSucc from rfl,
    after_0, after_1, after_2, after_3, after_4, after_5, after_6]
  unfold ΦK best
  rw [prefHeld_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  iapply (run c (grid1.coords t) _ _ _ _ _ _ _ _ _ _ _ _ _ _ _ _ (tab a) (iblk V a c 0 t) (iblk V a c 1 t) (iblk V a c 2 t) (iblk V a c 3 t) (iblk V a c 4 t) Set.univ _)
  isplitl [HT]; · iexact HT
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨HT, H0, H1, H2, H3, H4, H5, H6⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt` spells it. -/
theorem defs₀_row (t : Fin (cfg1 a).N) :
    defs₀ (F := F) .tc (cfg1 a).body ((cfg1 a).bodyArgs t ((cfg1 a).slots t)) = bodyAt a t := by
  unfold defs₀; rw [Defs.onTc_tc]

/-- The library's body obligation, at every point. -/
theorem body_obligation (c : Dev nD) : BodyObligation (dat V a c) (defs₀ (F := F)) Variants.none () Set.univ := fun t => by
  rw [bigSep_W1, bigSep_W1, defs₀_row]
  exact triple_restated (sound_body V a c t) rfl .rfl fun _ => .rfl

end Cert.KernelIdeal.Own.Score

end
-- ==== Proof.KernelIdeal.Run.lean ====
/-
  The launch: @main as four host stretches and three kernel regions, what each buffer holds between them, and the run: from
  any memory every weakly fair execution ends, and it leaves every unscoped buffer at the last of these valuations.
-/
module

public import proofs.«01_k».proof.Proof.KernelIdeal.Stats
public import proofs.«01_k».proof.Proof.KernelIdeal.Encode
public import proofs.«01_k».proof.Proof.KernelIdeal.Score
public import proofs.«01_k».proof.Proof.Gen.KernelIdeal.Regions
public import Idealize.ShloMosaic.Lib.Pipeline.RegionArraysS
public import Idealize.ShloMosaic.Lib.Pipeline.RegionArraysTS
public import Idealize.ShloMosaic.Lib.Pipeline.FrameTail

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg afterRegion)

variable {F : FTy → Type} [FloatOps F]

local notation "𝕄" => MT nD τ sig Unit (Elt F) ℕ (UR sig nD τ) ℕ

variable (m : (ℓ : Loc nD τ sig) → Buf (Elt F) ℓ)

/-! ## The buffers between the items -/

/-- The tables every pipeline prefetches: the score pipeline's page lengths as launched. -/
def adm : (p : Fin 3) → (pcfgs (F := F) p).Adm
  | 0 => cfg0.toPCfg_adm
  | 1 => ⟨fun k => m (((0 : Dev nD).tc : Thread nD τ).loc (pre1.ref k)), trivial⟩
  | 2 => cfg2.toPCfg_adm

/-- Core `c`'s buffers at launch. -/
def W0 (c : Dev nD) : Valuation τ sig (Elt F) := fun b => m (c, b)
/-- After the operations before the encoder. -/
def W1 (c : Dev nD) : Valuation τ sig (Elt F) := StableHlo.after hostOps0 (W0 m c)
/-- The encoder's proof data. -/
def dat0 (c : Dev nD) : Dat τ (Elt F) Unit ℕ (UR sig nD τ) ℕ cfg0 c := Encode.dat (fun c b => W1 m c (Proc.devRef .tc b)) c
/-- After the encoder. -/
def W2 (c : Dev nD) : Valuation τ sig (Elt F) := afterRegion (dat0 m c) (W1 m c)
/-- After the operations before the scores. -/
def W3 (c : Dev nD) : Valuation τ sig (Elt F) := StableHlo.after hostOps1 (W2 m c)
/-- The score kernel's proof data. -/
def dat1 (c : Dev nD) : Dat τ (Elt F) Unit ℕ (UR sig nD τ) ℕ (cfg1 (adm m 1)) c :=
  Score.dat (fun c b => W3 m c (Proc.devRef .tc b)) (adm m 1) c
/-- After the scores. -/
def W4 (c : Dev nD) : Valuation τ sig (Elt F) := afterRegion (dat1 m c) (W3 m c)
/-- After the operations before the statistics. -/
def W5 (c : Dev nD) : Valuation τ sig (Elt F) := StableHlo.after hostOps2 (W4 m c)
/-- The statistics kernel's proof data. -/
def dat2 (c : Dev nD) : Dat τ (Elt F) Unit ℕ (UR sig nD τ) ℕ cfg2 c := Stats.dat (fun c b => W5 m c (Proc.devRef .tc b)) c
/-- After the statistics. -/
def W6 (c : Dev nD) : Valuation τ sig (Elt F) := afterRegion (dat2 m c) (W5 m c)
/-- At the end. -/
def W7 (c : Dev nD) : Valuation τ sig (Elt F) := StableHlo.after hostOps3 (W6 m c)

/-- The three pipelines' proof data. -/
def pdats : (p : Fin 3) → (c : Dev nD) → Dat τ (Elt F) Unit ℕ (UR sig nD τ) ℕ (Pipeline.pin (pcfgs (F := F)) (adm m) p) c
  | 0 => dat0 m
  | 1 => dat1 m
  | 2 => dat2 m

/-! ## What each item leaves alone -/

/-- What each host stretch does not write it leaves, -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h
/-- and a region every array that is no output of its. -/
theorem W2_of (c : Dev nD) (r : Ref sig .tc) (h : ∀ w, Pipeline.arrRef spec0 w = r → (spec0 w).isOut = false) :
    W2 m c (Proc.devRef .tc r) = W1 m c (Proc.devRef .tc r) :=
  Pipeline.afterRegion_keeps (dat0 m c) (W1 m c) winFacts0.arr_inj (fun w => Encode.A_eq _ c w) r h
theorem W4_of (c : Dev nD) (r : Ref sig .tc) (h : ∀ w, Pipeline.arrRef spec1 w = r → (spec1 w).isOut = false) :
    W4 m c (Proc.devRef .tc r) = W3 m c (Proc.devRef .tc r) :=
  Pipeline.afterRegion_keeps (dat1 m c) (W3 m c) winFacts1.arr_inj (fun w => Score.A_eq _ _ c w) r h
theorem W6_of (c : Dev nD) (r : Ref sig .tc) (h : ∀ w, Pipeline.arrRef spec2 w = r → (spec2 w).isOut = false) :
    W6 m c (Proc.devRef .tc r) = W5 m c (Proc.devRef .tc r) :=
  Pipeline.afterRegion_keeps (dat2 m c) (W5 m c) winFacts2.arr_inj (fun w => Stats.A_eq _ c w) r h

/-- A buffer no item writes reaches the score pipeline as launched, -/
theorem W3_keeps (c : Dev nD) (r : Ref sig .tc) (h : r ∉ hostOps0_W ∧ r ∉ hostOps1_W ∧ ∀ w, Pipeline.arrRef spec0 w = r → (spec0 w).isOut = false) :
    W3 m c (Proc.devRef .tc r) = m ((c.tc : Thread nD τ).loc r) :=
  (W3_of m c r h.2.1).trans ((W2_of m c r h.2.2).trans (W1_of m c r h.1))

/-- and the end. -/
theorem W7_keeps (c : Dev nD) (r : Ref sig .tc) (h : (r ∉ hostOps0_W ∧ r ∉ hostOps1_W ∧ ∀ w, Pipeline.arrRef spec0 w = r → (spec0 w).isOut = false)
      ∧ r ∉ hostOps2_W ∧ r ∉ hostOps3_W ∧ (∀ w, Pipeline.arrRef spec1 w = r → (spec1 w).isOut = false) ∧ ∀ w, Pipeline.arrRef spec2 w = r → (spec2 w).isOut = false) :
    W7 m c (Proc.devRef .tc r) = m ((c.tc : Thread nD τ).loc r) :=
  (W7_of m c r h.2.2.1).trans ((W6_of m c r h.2.2.2.2).trans ((W5_of m c r h.2.1).trans ((W4_of m c r h.2.2.2.1).trans (W3_keeps m c r h.1))))

/-! ## The segments -/

/-- No core owes another anything: every level is zero. -/
abbrev L : GSem nD τ sig → Finset Unit := fun g => if g.1.2 = .tc then Finset.univ else ∅
abbrev lv : GSem nD τ sig → Unit → ℕ := fun _ _ => 0

/-- What rides beside the buffers: what the core owes, and its random-number register. -/
abbrev R (c : Dev nD) : sProp 𝕄 :=
  iprop((∃ Wd, owes (c : Thread nD τ) (0 : CellTallies nD τ sig Unit) Wd) ∗ (∃ r, prngReg c r) ∗ emp)

/-- The host stretches. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
def seg1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
def seg2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) R
def seg3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) R

/-- Every level is zero and nothing is owed, so the staging waits sit at the cut. -/
theorem cut (p : Fin 3) : Pipeline.LevelCut (nD := nD) (τ := τ) (pcfgs (F := F)) (adm m) () L lv p (fun _ => 0) (fun _ => 0) where
  hι c w s := by simp [L]
  hιb c w s := le_refl _
  hD c g i h := absurd h (Nat.lt_irrefl 0)

/-- The prefetched table holds the page lengths as launched when the score pipeline is entered. -/
theorem tables (c : Dev nD) (k : Fin pre1.K) : (adm m 1).1 k = W3 m c (Proc.devRef .tc (pre1.ref k)) := by
  obtain rfl : c = 0 := Subsingleton.elim _ _
  obtain rfl : k = (0 : Fin 1) := Subsingleton.elim (α := Fin 1) _ _
  exact (W3_keeps m 0 main_arg9 (by decide)).symm

set_option backward.isDefEq.respectTransparency.types false in
/-- The encoder's region. -/
def reg0 : RegionSeg (pcfgs (F := F)) (adm m) (pdats m) () defs₀ Variants.none L lv 0 :=
  RegionSeg.ofHeldIn (pcfgs (F := F)) (adm m) (pdats m) () defs₀ Variants.none L lv 0 (fun _ => 0) (Pipeline.ucRefs τ sig)
    (fun c => iprop(∃ r, prngReg c r)) (fun c => iprop(∃ r, prngReg c r)) launch0 rfl
    (fun c => (Encode.body_obligation (fun c b => W1 m c (Proc.devRef .tc b)) c).loose) (fun _ _ => rfl) (fun _ => rfl)
    (fun c => (dat0 m c).share_full fun _ => rfl) (fun _ => .rfl) (fun _ => .rfl) (fun _ => 0) (cut m 0) (fun _ => iprop(emp)) (W1 m)
    (fun c w => Encode.A_eq (fun c b => W1 m c (Proc.devRef .tc b)) c w)

set_option backward.isDefEq.respectTransparency.types false in
/-- The score kernel's region. -/
def reg1 : RegionSeg (pcfgs (F := F)) (adm m) (pdats m) () defs₀ Variants.none L lv 1 :=
  RegionSeg.ofHeldInT (pcfgs (F := F)) (adm m) (pdats m) () defs₀ Variants.none L lv 1 (fun _ => 0) (Pipeline.ucRefs τ sig)
    (fun c => iprop(∃ r, prngReg c r)) (fun c => iprop(∃ r, prngReg c r)) launch1
    (fun c => (Score.body_obligation (fun c b => W3 m c (Proc.devRef .tc b)) (adm m 1) c).loose) (fun _ _ => rfl) (fun _ => rfl)
    (fun c => (dat1 m c).share_full fun _ => rfl) (fun _ => .rfl) (fun _ => .rfl) (fun _ => 0) (cut m 1) (fun _ => iprop(emp)) (W3 m)
    (fun c w => Score.A_eq (fun c b => W3 m c (Proc.devRef .tc b)) (adm m 1) c w) (fun c k => tables m c k)

set_option backward.isDefEq.respectTransparency.types false in
/-- The statistics kernel's region. -/
def reg2 : RegionSeg (pcfgs (F := F)) (adm m) (pdats m) () defs₀ Variants.none L lv 2 :=
  RegionSeg.ofHeldIn (pcfgs (F := F)) (adm m) (pdats m) () defs₀ Variants.none L lv 2 (fun _ => 0) (Pipeline.ucRefs τ sig)
    (fun c => iprop(∃ r, prngReg c r)) (fun c => iprop(∃ r, prngReg c r)) launch2 rfl
    (fun c => (Stats.body_obligation (fun c b => W5 m c (Proc.devRef .tc b)) c).loose) (fun _ _ => rfl) (fun _ => rfl)
    (fun c => (dat2 m c).share_full fun _ => rfl) (fun _ => .rfl) (fun _ => .rfl) (fun _ => 0) (cut m 2) (fun _ => iprop(emp)) (W5 m)
    (fun c w => Stats.A_eq (fun c b => W5 m c (Proc.devRef .tc b)) c w)

/-! Each region is entered from the valuation before it and left at the one after it. -/

set_option backward.isDefEq.respectTransparency.types false in
theorem reg0_pre (c : Dev nD) : iprop(StableHlo.held (c : Thread nD τ) (Pipeline.ucRefs τ sig) (W1 m c) ∗ R c) ⊢ (reg0 m).pre c := by
  unfold reg0
  refine BI.Entails.trans ?_ (RegionSeg.ofHeldIn_pre (pcs := pcfgs (F := F)) (a := adm m) (pdats := pdats m) (p := 0) (Pipeline.arrRefs_sub_ucRefs spec0 (by decide)) c)
  exact BI.Entails.refl _

set_option backward.isDefEq.respectTransparency.types false in
theorem reg0_post (c : Dev nD) : (reg0 m).post c ⊢ iprop(StableHlo.held (c : Thread nD τ) (Pipeline.ucRefs τ sig) (W2 m c) ∗ R c) := by
  unfold reg0
  refine BI.Entails.trans (RegionSeg.ofHeldIn_post (pcs := pcfgs (F := F)) (a := adm m) (pdats := pdats m) (p := 0) (Pipeline.arrRefs_sub_ucRefs spec0 (by decide)) c) ?_
  exact BI.Entails.refl _

set_option backward.isDefEq.respectTransparency.types false in
theorem reg1_pre (c : Dev nD) : iprop(StableHlo.held (c : Thread nD τ) (Pipeline.ucRefs τ sig) (W3 m c) ∗ R c) ⊢ (reg1 m).pre c := by
  unfold reg1
  refine BI.Entails.trans ?_ (RegionSeg.ofHeldInT_pre (pcs := pcfgs (F := F)) (a := adm m) (pdats := pdats m) (p := 1) (Pipeline.arrRefs_sub_ucRefs spec1 (by decide)) (Pipeline.tblRefs_sub_ucRefs pre1 (by decide)) c)
  exact BI.Entails.refl _

set_option backward.isDefEq.respectTransparency.types false in
theorem reg1_post (c : Dev nD) : (reg1 m).post c ⊢ iprop(StableHlo.held (c : Thread nD τ) (Pipeline.ucRefs τ sig) (W4 m c) ∗ R c) := by
  unfold reg1
  refine BI.Entails.trans (RegionSeg.ofHeldInT_post (pcs := pcfgs (F := F)) (a := adm m) (pdats := pdats m) (p := 1) (Pipeline.arrRefs_sub_ucRefs spec1 (by decide)) (Pipeline.tblRefs_sub_ucRefs pre1 (by decide)) c) ?_
  exact BI.Entails.refl _

set_option backward.isDefEq.respectTransparency.types false in
theorem reg2_pre (c : Dev nD) : iprop(StableHlo.held (c : Thread nD τ) (Pipeline.ucRefs τ sig) (W5 m c) ∗ R c) ⊢ (reg2 m).pre c := by
  unfold reg2
  refine BI.Entails.trans ?_ (RegionSeg.ofHeldIn_pre (pcs := pcfgs (F := F)) (a := adm m) (pdats := pdats m) (p := 2) (Pipeline.arrRefs_sub_ucRefs spec2 (by decide)) c)
  exact BI.Entails.refl _

set_option backward.isDefEq.respectTransparency.types false in
theorem reg2_post (c : Dev nD) : (reg2 m).post c ⊢ iprop(StableHlo.held (c : Thread nD τ) (Pipeline.ucRefs τ sig) (W6 m c) ∗ R c) := by
  unfold reg2
  refine BI.Entails.trans (RegionSeg.ofHeldIn_post (pcs := pcfgs (F := F)) (a := adm m) (pdats := pdats m) (p := 2) (Pipeline.arrRefs_sub_ucRefs spec2 (by decide)) c) ?_
  exact BI.Entails.refl _

/-- @main as the list of them. -/
abbrev segs : List (Seg (pcfgs (F := F)) (adm m) (pdats m) () defs₀ Variants.none L lv) :=
  [.host (seg0 m), .region (reg0 m), .host (seg1 m), .region (reg1 m), .host (seg2 m), .region (reg2 m), .host (seg3 m)]

/-- The staging cells and the pipelines' transfers at launch. -/
def u₀ : UR sig nD τ :=
  initOf (Pipeline.cells (Pipeline.pin (pcfgs (F := F)) (adm m)) (cellOf_inj (adm m))) (Pipeline.launchToks (Pipeline.pin (pcfgs (F := F)) (adm m)) (cellOf_inj (adm m)))

set_option backward.isDefEq.respectTransparency.types false in
set_option maxHeartbeats 2000000 in
/-- The run: every execution ends, with every counter at zero and each unscoped buffer at the last valuation. -/
theorem run (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W7 m c (Proc.devRef .tc b))
      ∧ r.2.sem = fun _ => 0) :=
  Pipeline.θ_run_regions_kit_sems (pcfgs (F := F)) (adm m) (pdats m) () (cellOf_inj (adm m)) emb₁ defs₀ Variants.none L lv m ρ main (segs m)
    (fun c Q => by rw [main_segs (adm m) (pdats m) () Variants.none L lv (seg0 m) (seg1 m) (seg2 m) (seg3 m) (reg0 m) (reg1 m) (reg2 m) rfl rfl rfl rfl c])
    (by simp only [Seg.pipes_host, Seg.pipes_region, Seg.pipes_nil]; decide) (O₀ := 0) (hL := fun g hg => if_neg hg)
    (G := fun _ => iprop(emp)) (u₀ := u₀ m)
    (hu₀ := by
      iintro Hu
      imodintro
      isplitl [Hu]
      · iapply (show (ownU _ : sProp 𝕄) ⊢ BI.own (emb₁ (u₀ m)) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W7 m c))
    (hch := ⟨fun _ => .rfl, reg0_pre m, reg0_post m, reg1_pre m, reg1_post m, reg2_pre m, reg2_post m,
      fun c => sep_mono .rfl (show R c ⊢ iprop(∃ Wd, owes (c : Thread nD τ) (0 : CellTallies nD τ sig Unit) Wd) from by
        iintro ⟨H, -, -⟩; iexact H)⟩)
    (hinit := by
      refine Pipeline.initEach L lv fun c => ?_
      rw [show unscopedBufs c (fun b => m ((c : Thread nD τ).loc b)) = StableHlo.held (c : Thread nD τ) (Pipeline.ucRefs τ sig) (W0 m c) from
        Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b : Ref sig .tc, b.isScoped = false → s.mem ((c.tc : Thread nD τ).loc b) = W7 m c (Proc.devRef .tc b))
    (hfin := fun c s' => by
      unfold StableHlo.held
      iintro ⟨Hh, HSI⟩
      ihave Hr := (pointsTo_read_all (Pipeline.ucRefs τ sig) (fun b => ((c : Thread nD τ).1, b)) (W7 m c) s') $$ [Hh HSI]
      · isplitl [Hh] <;> iassumption
      icases Hr with ⟨%h, HSI⟩
      imodintro
      isplitr
      · ipureintro
        exact fun b hb => h (Proc.devRef .tc b) (Finset.mem_filter.mpr ⟨StableHlo.devRef_mem_tcRefs b, fun h' => Bool.false_ne_true (hb.symm.trans h')⟩)
      · iexact HSI)
    (hQ := fun _ h hz => ⟨h, funext fun g => hz g (.inr (regions_no_unscoped g.2))⟩)

end Cert.KernelIdeal.Own

end
-- ==== Proof.KernelIdeal.Results.lean ====
/-
  What the three regions leave in their output arrays, as terms of the arrays they read.
-/
module

public import proofs.«01_k».proof.Proof.KernelIdeal.Run
public import Idealize.ShloMosaic.Lib.Pipeline.ValueKit
public import Idealize.ShloMosaic.Lib.StableHlo.ReadAt

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

/-! ## The encoder -/

/-- Every window of the encoder is one block, its whole array. -/
theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

section
variable (V : (c : Dev nD) → (b : Ref sig .tc) → Buf (Elt Ideal) ((c.tc : Thread nD τ).loc b))
theorem blk0_0 (c : Dev nD) (t : Fin cfg0.N) : Encode.iblk V c 0 t = V c main_v0 := by blk_ext! [Encode.iblk, idx0 t]
theorem blk0_1 (c : Dev nD) (t : Fin cfg0.N) : Encode.iblk V c 1 t = V c main_v1 := by blk_ext! [Encode.iblk, idx0 t]
theorem blk0_2 (c : Dev nD) (t : Fin cfg0.N) : Encode.iblk V c 2 t = V c main_arg2 := by blk_ext! [Encode.iblk, idx0 t]
theorem blk0_3 (c : Dev nD) (t : Fin cfg0.N) : Encode.iblk V c 3 t = V c main_v2 := by blk_ext! [Encode.iblk, idx0 t]
theorem blk0_4 (c : Dev nD) (t : Fin cfg0.N) : Encode.iblk V c 4 t = V c main_v3 := by blk_ext! [Encode.iblk, idx0 t]

theorem arr0_5 (c : Dev nD) : (Encode.dat V c).arrAt 5 cfg0.N = k0_pay4 (V c main_v0) (V c main_v1) := by
  refine (Encode.dat V c).arrAt_eq_of_covers 5 _ (by decide +kernel) fun t _ y => ?_
  blk_simp; rw [Encode.after_5, blk0_0, blk0_1]; congr 1; blk_ext [idx0 t]
theorem arr0_6 (c : Dev nD) : (Encode.dat V c).arrAt 6 cfg0.N = k0_pay2 (V c main_v0) (V c main_v1) := by
  refine (Encode.dat V c).arrAt_eq_of_covers 6 _ (by decide +kernel) fun t _ y => ?_
  blk_simp; rw [Encode.after_6, blk0_0, blk0_1]; congr 1; blk_ext [idx0 t]
theorem arr0_7 (c : Dev nD) : (Encode.dat V c).arrAt 7 cfg0.N = k0_pay7 (k0_pay2 (V c main_v0) (V c main_v1)) (k0_pay5 (V c main_v0) (V c main_v1)) (k0_pay6 (V c main_arg2)) (V c main_v2) (V c main_v3) := by
  refine (Encode.dat V c).arrAt_eq_of_covers 7 _ (by decide +kernel) fun t _ y => ?_
  blk_simp; rw [Encode.after_7, blk0_0, blk0_1, blk0_2, blk0_3, blk0_4]; congr 1; blk_ext [idx0 t]
theorem arr0_8 (c : Dev nD) : (Encode.dat V c).arrAt 8 cfg0.N = k0_pay8 (k0_pay2 (V c main_v0) (V c main_v1)) (k0_pay5 (V c main_v0) (V c main_v1)) (k0_pay6 (V c main_arg2)) (V c main_v2) (V c main_v3) := by
  refine (Encode.dat V c).arrAt_eq_of_covers 8 _ (by decide +kernel) fun t _ y => ?_
  blk_simp; rw [Encode.after_8, blk0_0, blk0_1, blk0_2, blk0_3, blk0_4]; congr 1; blk_ext [idx0 t]
theorem arr0_9 (c : Dev nD) : (Encode.dat V c).arrAt 9 cfg0.N = k0_pay10 (k0_pay2 (V c main_v0) (V c main_v1)) (k0_pay5 (V c main_v0) (V c main_v1)) (k0_pay6 (V c main_arg2)) (V c main_v2) (V c main_v3) := by
  refine (Encode.dat V c).arrAt_eq_of_covers 9 _ (by decide +kernel) fun t _ y => ?_
  blk_simp; rw [Encode.after_9, blk0_0, blk0_1, blk0_2, blk0_3, blk0_4]; congr 1; blk_ext [idx0 t]
theorem arr0_10 (c : Dev nD) : (Encode.dat V c).arrAt 10 cfg0.N = k0_pay9 (k0_pay2 (V c main_v0) (V c main_v1)) (k0_pay5 (V c main_v0) (V c main_v1)) (k0_pay6 (V c main_arg2)) (V c main_v2) (V c main_v3) := by
  refine (Encode.dat V c).arrAt_eq_of_covers 10 _ (by decide +kernel) fun t _ y => ?_
  blk_simp; rw [Encode.after_10, blk0_0, blk0_1, blk0_2, blk0_3, blk0_4]; congr 1; blk_ext [idx0 t]
end

/-! ## The statistics -/

/-- Every window of the statistics kernel is one block, its whole array. -/
theorem idx2 : ∀ t : Fin cfg2.N, win2_0.index t = ![0, 0, 0] ∧ win2_1.index t = ![0, 0] ∧ win2_2.index t = ![0, 0] ∧ win2_3.index t = ![0, 0]
    ∧ win2_4.index t = ![0, 0] :=
  (by decide +kernel : ∀ t : Fin grid2.N, _)

section
variable (V : (c : Dev nD) → (b : Ref sig .tc) → Buf (Elt Ideal) ((c.tc : Thread nD τ).loc b))
theorem blk2_0 (c : Dev nD) (t : Fin cfg2.N) : Stats.iblk V c 0 t = V c main_v14 := by blk_ext! [Stats.iblk, idx2 t]
theorem blk2_1 (c : Dev nD) (t : Fin cfg2.N) : Stats.iblk V c 1 t = V c main_v16 := by blk_ext! [Stats.iblk, idx2 t]

theorem arr2_2 (c : Dev nD) : (Stats.dat V c).arrAt 2 cfg2.N = k2_pay1 (V c main_v14) := by
  refine (Stats.dat V c).arrAt_eq_of_covers 2 _ (by decide +kernel) fun t _ y => ?_
  blk_simp; rw [Stats.after_2, blk2_0]; congr 1; blk_ext [idx2 t]
theorem arr2_3 (c : Dev nD) : (Stats.dat V c).arrAt 3 cfg2.N = k2_pay2 (V c main_v14) := by
  refine (Stats.dat V c).arrAt_eq_of_covers 3 _ (by decide +kernel) fun t _ y => ?_
  blk_simp; rw [Stats.after_3, blk2_0]; congr 1; blk_ext [idx2 t]
theorem arr2_4 (c : Dev nD) : (Stats.dat V c).arrAt 4 cfg2.N = k2_pay3 (V c main_v14) (V c main_v16) := by
  refine (Stats.dat V c).arrAt_eq_of_covers 4 _ (by decide +kernel) fun t _ y => ?_
  blk_simp; rw [Stats.after_4, blk2_0, blk2_1]; congr 1; blk_ext [idx2 t]
end

end Cert.KernelIdeal.Own
end
-- ==== Proof.Value.Page.lean ====
/-
  One page's similarity in scalars: a sign out of a bit, a column's product with a row of codes, the best column and the first.
-/
module

public import Idealize.ShloMosaic.Lib.Pipeline.ValueKit

@[expose] public section

set_option maxRecDepth 16384

noncomputable section

namespace Cert.Page

open Idealize.ShloMosaic

/-- Bit `k` of a word as a sign: set is 1, clear is -1. -/
def sgn (w : BitVec 32) (k : ℕ) : EReal := if w.getLsbD k then 1 else -1

/-- An int8 code as a number. -/
def num (q : BitVec 8) : EReal := ((q.toInt : ℝ) : EReal)

/-- Row `q` of codes against the column whose 128 signs are packed into the four words `w`, times the column's scale. -/
def sim (q : Fin 128 → BitVec 8) (w : Fin 4 → BitVec 32) (s : EReal) : EReal :=
  (∑ x : Fin 128, num (q x) * sgn (w ⟨x.val / 32, by omega⟩) (x.val % 32)) * s

/-- The best of a page's first `n` columns. -/
def best (q : Fin 128 → BitVec 8) (w : Fin 1024 → Fin 4 → BitVec 32) (s : Fin 1024 → EReal) (n : BitVec 32) : EReal :=
  Finset.univ.fold max ⊥ fun l : Fin 1024 => if (l.val : ℤ) < n.toInt then sim q (w l) (s l) else ⊥

theorem ofBits_pos_one : Ideal.ofBits .f32 0x3F800000#32 = 1 := Ideal.ofBits_one_f32
theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num
theorem ofBits_bot : Ideal.ofBits .f32 0xFF800000#32 = ⊥ := by
  simp [Ideal.ofBits, Ideal.ieee]
theorem ofBits_lo : Ideal.ofBits .f32 0xC2FE0000#32 = ((-127 : ℝ) : EReal) := by
  simp [Ideal.ofBits, Ideal.ieee, -EReal.coe_mul, -EReal.coe_neg]; norm_num
theorem ofBits_hi : Ideal.ofBits .f32 0x42FE0000#32 = ((127 : ℝ) : EReal) := by
  simp [Ideal.ofBits, Ideal.ieee, -EReal.coe_mul, -EReal.coe_neg]; norm_num

/-- A word's bit `k` shifted to the top and kept alone. -/
theorem top_bit (w : BitVec 32) (k : ℕ) (hk : k < 32) :
    (w <<< (31 - k)) &&& 0x80000000#32 = if w.getLsbD k then 0x80000000#32 else 0#32 := by
  apply BitVec.eq_of_getLsbD_eq
  intro i hi
  have h80 : (0x80000000#32).getLsbD i = decide (i = 31) := by
    revert i; decide
  rw [BitVec.getLsbD_and, BitVec.getLsbD_shiftLeft, h80]
  by_cases h : i = 31
  · subst h
    have : 31 - (31 - k) = k := by omega
    rw [this]
    cases w.getLsbD k <;> simp <;> omega
  · cases w.getLsbD k <;> simp [h, h80]

/-- Shifting bit `k` to the top, keeping it alone and flipping the pattern of -1 by it gives the bit's sign. -/
theorem sgn_pattern (w : BitVec 32) (k : ℕ) (hk : k < 32) :
    Ideal.ofBits .f32 (IntOp.xori (IntOp.andi (IntOp.shli .vector w (IntOp.subi 31#32 (BitVec.ofNat 32 k))) 0x80000000#32) 0xBF800000#32) = sgn w k := by
  have hs : (IntOp.subi 31#32 (BitVec.ofNat 32 k)).toNat = 31 - k := by
    unfold IntOp.subi
    rw [BitVec.toNat_sub, BitVec.toNat_ofNat, BitVec.toNat_ofNat]; omega
  have : IntOp.andi (IntOp.shli .vector w (IntOp.subi 31#32 (BitVec.ofNat 32 k))) 0x80000000#32 = if w.getLsbD k then 0x80000000#32 else 0#32 := by
    unfold IntOp.shli IntOp.andi
    rw [if_pos (by omega), BitVec.shiftLeft_eq', hs, top_bit w k hk]
  rw [this]; unfold sgn IntOp.xori
  split
  · exact ofBits_pos_one
  · exact ofBits_neg_one

/-- Shifting bit `k` to the bottom and comparing it with 1 tells it. -/
theorem sgn_test (w : BitVec 32) (k : ℕ) (hk : k < 32) :
    IntOp.cmpi .eq (IntOp.andi (IntOp.shrsi .host w (BitVec.ofNat 32 k)) 1#32) 1#32 = BitVec.ofBool (w.getLsbD k) := by
  have hs : (BitVec.ofNat 32 k).toNat = k := by rw [BitVec.toNat_ofNat]; omega
  have : IntOp.andi (IntOp.shrsi .host w (BitVec.ofNat 32 k)) 1#32 = if w.getLsbD k then 1#32 else 0#32 := by
    unfold IntOp.shrsi IntOp.andi
    rw [if_pos (by omega), BitVec.sshiftRight', hs]
    apply BitVec.eq_of_getLsbD_eq
    intro i hi
    have h1 : (1#32).getLsbD i = decide (i = 0) := by revert i; decide
    rw [BitVec.getLsbD_and, BitVec.getLsbD_sshiftRight, h1]
    by_cases h : i = 0
    · subst h
      cases hb : w.getLsbD k <;> simp [hb, hk]
    · cases w.getLsbD k <;> simp [h]
  rw [this]; unfold IntOp.cmpi
  cases w.getLsbD k <;> rfl

/-- The sign the test selects. -/
theorem sgn_select (w : BitVec 32) (k : ℕ) (hk : k < 32) :
    Scalar.select (IntOp.cmpi .eq (IntOp.andi (IntOp.shrsi .host w (BitVec.ofNat 32 k)) 1#32) 1#32)
      (Ideal.ofBits .f32 0x3F800000#32) (Ideal.ofBits .f32 0xBF800000#32) = sgn w k := by
  rw [sgn_test w k hk, ofBits_pos_one, ofBits_neg_one]; unfold sgn
  cases w.getLsbD k <;> simp [Scalar.select]

/-! ## Codes -/

/-- A value rounded to the nearest integer and clipped to -127 … 127. -/
def clip (x : EReal) : EReal := min ((127 : ℝ) : EReal) (max ((-127 : ℝ) : EReal) (Ideal.liftRound Ideal.roundHalfEven x))

/-- It is an integer in that range. -/
theorem clip_int (x : EReal) : ∃ n : ℤ, -127 ≤ n ∧ n ≤ 127 ∧ clip x = (((n : ℤ) : ℝ) : EReal) := by
  unfold clip
  have hr : ∀ a : ℝ, min ((127 : ℝ) : EReal) (max ((-127 : ℝ) : EReal) ((a : ℝ) : EReal)) = ((min 127 (max (-127) a) : ℝ) : EReal) := fun a => by
    rw [EReal.coe_strictMono.monotone.map_min, EReal.coe_strictMono.monotone.map_max]
  induction x with
  | bot =>
    refine ⟨-127, by norm_num, by norm_num, ?_⟩
    rw [show Ideal.liftRound Ideal.roundHalfEven ⊥ = ⊥ from rfl, max_eq_left bot_le, min_eq_right (by norm_cast)]
    norm_num
  | top =>
    refine ⟨127, by norm_num, by norm_num, ?_⟩
    rw [show Ideal.liftRound Ideal.roundHalfEven ⊤ = ⊤ from rfl, max_eq_right le_top, min_eq_left le_top]
    norm_num
  | coe r =>
    refine ⟨min 127 (max (-127) (Ideal.roundHalfEven r)), by omega, by omega, ?_⟩
    rw [show Ideal.liftRound Ideal.roundHalfEven (r : EReal) = (((Ideal.roundHalfEven r : ℤ) : ℝ) : EReal) from rfl, hr]
    push_cast
    rfl

/-- An integer in range converts to itself. -/
theorem fptosi_int (w : ℕ) (n : ℤ) (h0 : -(2 ^ (w - 1) : ℕ) ≤ n) (h1 : n ≤ (2 ^ (w - 1) : ℕ) - 1) :
    Ideal.fptosi w (((n : ℤ) : ℝ) : EReal) = BitVec.ofInt w n := by
  unfold Ideal.fptosi
  have e : ∀ lo hi : ℤ, Ideal.toIntClamped lo hi (((n : ℤ) : ℝ) : EReal)
      = max lo (min hi (if 0 ≤ ((n : ℤ) : ℝ) then ⌊((n : ℤ) : ℝ)⌋ else ⌈((n : ℤ) : ℝ)⌉)) := fun _ _ => rfl
  rw [e]
  rw [Int.floor_intCast, Int.ceil_intCast, ite_self, min_eq_right h1, max_eq_right h0]

/-- Such an integer taken to int8, -/
def code (x : EReal) : BitVec 8 := Ideal.fptosi 8 (clip x)

/-- by way of int32 or not, -/
theorem code_via (x : EReal) : (Ideal.fptosi 32 (clip x)).setWidth 8 = code x := by
  unfold code
  obtain ⟨n, h0, h1, hn⟩ := clip_int x
  rw [hn, fptosi_int 32 n (by norm_num; omega) (by norm_num; omega), fptosi_int 8 n (by norm_num; omega) (by norm_num; omega)]
  apply BitVec.eq_of_toInt_eq
  rw [BitVec.toInt_setWidth, BitVec.toInt_ofInt, BitVec.toNat_ofInt]
  norm_num
  rw [Int.bmod_def, Int.bmod_def]
  omega

/-- and back, is itself. -/
theorem num_code (x : EReal) : num (code x) = clip x := by
  unfold code num
  obtain ⟨n, h0, h1, hn⟩ := clip_int x
  rw [hn, fptosi_int 8 n (by norm_num; omega) (by norm_num; omega), BitVec.toInt_ofInt, Int.bmod_def]
  congr 2
  norm_num
  omega

/-! ## Indices as words -/

/-- A small number's word below another, signed. -/
theorem cmp_slt (x : ℕ) (hx : x < 2 ^ 31) (n : BitVec 32) :
    IntOp.cmpi .slt (BitVec.ofNat 32 x) n = BitVec.ofBool (decide ((x : ℤ) < n.toInt)) := by
  unfold IntOp.cmpi
  have : (BitVec.ofNat 32 x).toInt = (x : ℤ) := by
    rw [BitVec.toInt_eq_toNat_cond, BitVec.toNat_ofNat]; split <;> omega
  simp only [BitVec.slt, this]

/-- Two small numbers' words equal. -/
theorem cmp_eq (x y : ℕ) (hx : x < 2 ^ 32) (hy : y < 2 ^ 32) :
    IntOp.cmpi .eq (BitVec.ofNat 32 x) (BitVec.ofNat 32 y) = BitVec.ofBool (decide (x = y)) := by
  unfold IntOp.cmpi
  congr 1
  rw [Bool.eq_iff_iff, beq_iff_eq, decide_eq_true_iff]
  constructor
  · intro h
    have := congrArg BitVec.toNat h
    rwa [BitVec.toNat_ofNat, BitVec.toNat_ofNat, Nat.mod_eq_of_lt hx, Nat.mod_eq_of_lt hy] at this
  · rintro rfl; rfl

/-- A select on a decided bit. -/
theorem select_ofBool {α : Type} (p : Prop) [Decidable p] (a b : α) :
    Scalar.select (BitVec.ofBool (decide p)) a b = if p then a else b := by
  by_cases h : p <;> simp [Scalar.select, h]

end Cert.Page
end
-- ==== Proof.Value.Trip.lean ====
/-
  The score kernel's payloads in scalars: a column's similarity, what a trip puts into its lane, and the 128 trips together.
-/
module

public import proofs.«01_k».proof.Proof.KernelIdeal.Score
public import proofs.«01_k».proof.Proof.Value.Page

@[expose] public section

set_option maxRecDepth 16384

noncomputable section

namespace Cert.KernelIdeal.Own.Score

open Cert.KernelIdeal Cert.KernelIdeal.Gen
open Idealize.ShloMosaic Idealize.ShloMosaic.TcCoe Idealize.SL.Sem

/-- Row `r` of the query codes against column `l` of a page. -/
theorem pay2_apply (q : Vec Ideal S144x128 .i8) (w : Vec Ideal S1x4x1024 .i32) (s : Vec Ideal S1x1024 .f32) (r : Fin 144) (l : Fin 1024) :
    k1_pay2 (F := Ideal) q w s (ix2 r l) = Page.sim (fun x => q (ix2 r x)) (fun b => w (ix3 0 b l)) (s (ix2 0 l)) := by
  pointwise [k1_pay2]
  unfold Page.sim
  congr 1
  refine Finset.sum_congr rfl fun x _ => ?_
  rw [Page.sgn_pattern _ _ (Nat.mod_lt _ (by norm_num))]
  rfl

theorem iv_eq (k : ℕ) : Scf.iv 0#32 1#32 k = BitVec.ofNat 32 k := by
  unfold Scf.iv; rw [BitVec.zero_add, BitVec.mul_one]

theorem trips_lt (k : Fin k1_t1_loop.trips) : k.val < 128 := lt_of_lt_of_eq k.isLt trips_eq

/-- A trip puts the page's best column into lane `k` and leaves the other lanes. -/
theorem pay3_apply (q : Vec Ideal S144x128 .i8) (k : Fin k1_t1_loop.trips) (acc : FVec Ideal S144x128 .f32) (w : Vec Ideal S1x4x1024 .i32)
    (s : Vec Ideal S1x1024 .f32) (n : BitVec 32) (r : Fin 144) (l : Fin 128) :
    k1_pay3 (F := Ideal) q k acc w s n (ix2 r l)
      = if l.val = k.val then Page.best (fun x => q (ix2 r x)) (fun l b => w (ix3 0 b l)) (fun l => s (ix2 0 l)) n else acc (ix2 r l) := by
  pointwise [k1_pay3]
  have hk := trips_lt k
  rw [iv_eq, Page.cmp_eq _ _ (by omega) (by omega), Page.select_ofBool]
  unfold Page.best
  rw [Page.ofBits_bot]
  congr 2
  funext x
  rw [Page.cmp_slt _ (by omega), Page.select_ofBool, pay2_apply]

/-- A trip puts the page's first column into lane `k` and leaves the other lanes. -/
theorem pay4_apply (q : Vec Ideal S144x128 .i8) (k : Fin k1_t1_loop.trips) (acc : FVec Ideal S144x128 .f32) (w : Vec Ideal S1x4x1024 .i32)
    (s : Vec Ideal S1x1024 .f32) (r : Fin 144) (l : Fin 128) :
    k1_pay4 (F := Ideal) q k acc w s (ix2 r l)
      = if l.val = k.val then Page.sim (fun x => q (ix2 r x)) (fun b => w (ix3 0 b 0)) (s (ix2 0 0)) else acc (ix2 r l) := by
  pointwise [k1_pay4]
  have hk := trips_lt k
  rw [iv_eq, Page.cmp_eq _ _ (by omega) (by omega), Page.select_ofBool, pay2_apply]

/-- The words, scales and length a trip reads. -/
theorem wordsAt_apply (x5 : Vec Ideal S128x4x1024 .i32) (k : Fin k1_t1_loop.trips) (b : Fin 4) (l : Fin 1024) :
    wordsAt x5 k (ix3 0 b l) = x5 (ix3 ⟨k.val, trips_lt k⟩ b l) := by
  pointwise [wordsAt]
  congr 1
  simp [k1_off1_eq]
theorem scaleAt_apply (x6 : Vec Ideal S128x1024 .f32) (k : Fin k1_t1_loop.trips) (l : Fin 1024) :
    scaleAt x6 k (ix2 0 l) = x6 (ix2 ⟨k.val, trips_lt k⟩ l) := by
  pointwise [scaleAt]
  congr 1
  simp [k1_off2_eq]
theorem lenAt_apply (x1 : Vec Ideal S4096 .i32) (i : grid1.Coords) (k : Fin k1_t1_loop.trips) (hi : 128 * (i 0).val + k.val < 4096) :
    lenAt x1 i k = x1 (Idealize.ShloMosaic.ix1 ⟨128 * (i 0).val + k.val, hi⟩) := by
  pointwise [lenAt]
  congr 1
  simp [k1_off3_eq]

/-- Lane `l` after `n` trips: page `l`'s best and first column once its trip is done, zero before. -/
theorem st_apply (i : grid1.Coords) (x1 : Vec Ideal S4096 .i32) (q : Vec Ideal S144x128 .i8) (x5 : Vec Ideal S128x4x1024 .i32) (x6 : Vec Ideal S128x1024 .f32)
    (r : Fin 144) (l : Fin 128) (hi : 128 * (i 0).val + l.val < 4096) (n : ℕ) (hn : n ≤ 128) :
    (st i x1 q x5 x6 n).1 (ix2 r l) = (if l.val < n then
        Page.best (fun x => q (ix2 r x)) (fun j b => x5 (ix3 l b j)) (fun j => x6 (ix2 l j)) (x1 (Idealize.ShloMosaic.ix1 ⟨128 * (i 0).val + l.val, hi⟩)) else 0)
    ∧ (st i x1 q x5 x6 n).2 (ix2 r l) = (if l.val < n then
        Page.sim (fun x => q (ix2 r x)) (fun b => x5 (ix3 l b 0)) (x6 (ix2 l 0)) else 0) := by
  induction n with
  | zero =>
    simp only [Nat.not_lt_zero, if_false]
    constructor <;> (unfold st; pointwise [k1_pay1])
  | succ n ih =>
    obtain ⟨h1, h2⟩ := ih (by omega)
    have hk : n < k1_t1_loop.trips := lt_of_lt_of_eq (by omega) trips_eq.symm
    rw [show st i x1 q x5 x6 (n + 1) = trip i x1 q x5 x6 ⟨n, hk⟩ (st i x1 q x5 x6 n) by
      conv_lhs => unfold st
      rw [dif_pos hk]]
    unfold trip
    dsimp only
    rw [pay3_apply, pay4_apply, h1, h2]
    by_cases hl : l.val = n
    · have e : l = (⟨n, trips_lt ⟨n, hk⟩⟩ : Fin 128) := Fin.ext hl
      rw [if_pos hl, if_pos hl, if_pos (by omega), if_pos (by omega)]
      simp only [wordsAt_apply, scaleAt_apply]
      rw [lenAt_apply x1 i ⟨n, hk⟩ (by dsimp only; omega)]
      subst e
      exact ⟨rfl, rfl⟩
    · rw [if_neg hl, if_neg hl]
      have : l.val < n + 1 ↔ l.val < n := by omega
      simp only [this]
      exact ⟨trivial, trivial⟩

/-- What the score kernel stores: the best column times the query's scale, zero where the query is no valid one. -/
theorem pay6_apply (a : FVec Ideal S144x128 .f32) (b : Vec Ideal S144x1 .i32) (v : Vec Ideal S144x1 .f32) (r : Fin 144) (l : Fin 128) :
    k1_pay6 (F := Ideal) a b v (ix2 r l) = Scalar.select (IntOp.cmpi .sgt (b (ix2 r 0)) 0#32) (a (ix2 r l) * v (ix2 r 0)) 0 := by
  pointwise [k1_pay6, k1_pay5]
theorem pay7_apply (a : FVec Ideal S144x128 .f32) (b : Vec Ideal S144x1 .i32) (v : Vec Ideal S144x1 .f32) (r : Fin 144) (l : Fin 128) :
    k1_pay7 (F := Ideal) a b v (ix2 r l) = Scalar.select (IntOp.cmpi .sgt (b (ix2 r 0)) 0#32) (a (ix2 r l) * v (ix2 r 0)) 0 := by
  pointwise [k1_pay7, k1_pay5]

end Cert.KernelIdeal.Own.Score
end
-- ==== Proof.KernelIdeal.ScoreResults.lean ====
/-
  What the score region leaves in its two output arrays, as terms of the arrays it reads: 32 blocks of 128 pages tile each.
-/
module

public import proofs.«01_k».proof.Proof.Value.Trip
public import Idealize.ShloMosaic.Lib.Pipeline.Covers

@[expose] public section

set_option maxRecDepth 16384

noncomputable section

namespace Cert.KernelIdeal.Own.Score

open Cert.KernelIdeal Cert.KernelIdeal.Gen
open Idealize.ShloMosaic Idealize.ShloMosaic.TcCoe Idealize.SL.Sem
open Idealize.ShloMosaic.Pipeline (Dat)

/-- The score of query row `j 0` against page `j 1`: the page's best column times the row's scale, zero where the row is no
    valid query. -/
def bestArr (q : Vec Ideal S144x128 .i8) (qs : Vec Ideal S144x1 .f32) (ok : Vec Ideal S144x1 .i32) (W : Vec Ideal S4096x4x1024 .i32)
    (S : Vec Ideal S4096x1024 .f32) (N : Vec Ideal S4096 .i32) : FVec Ideal S144x4096 .f32 := fun j =>
  Scalar.select (IntOp.cmpi .sgt (ok (ix2 (j 0) 0)) 0#32)
    (Page.best (fun x => q (ix2 (j 0) x)) (fun l b => W (ix3 (j 1) b l)) (fun l => S (ix2 (j 1) l)) (N (Idealize.ShloMosaic.ix1 (j 1))) * qs (ix2 (j 0) 0)) (0 : EReal)

/-- The same with the page's first column in place of its best. -/
def firstArr (q : Vec Ideal S144x128 .i8) (qs : Vec Ideal S144x1 .f32) (ok : Vec Ideal S144x1 .i32) (W : Vec Ideal S4096x4x1024 .i32)
    (S : Vec Ideal S4096x1024 .f32) : FVec Ideal S144x4096 .f32 := fun j =>
  Scalar.select (IntOp.cmpi .sgt (ok (ix2 (j 0) 0)) 0#32)
    (Page.sim (fun x => q (ix2 (j 0) x)) (fun b => W (ix3 (j 1) b 0)) (S (ix2 (j 1) 0)) * qs (ix2 (j 0) 0)) (0 : EReal)

/-- A point's coordinate is its number, and the windows' block indices: three constant blocks, and the point's block of
    128 pages. -/
theorem maps : ∀ t : Fin grid1.N, (grid1.coords t 0).val = t.val ∧ t.val < 32
    ∧ cc1_transform_0 (grid1.coords t) = ![0, 0] ∧ cc1_transform_1 (grid1.coords t) = ![0, 0] ∧ cc1_transform_2 (grid1.coords t) = ![0, 0]
    ∧ cc1_transform_3 (grid1.coords t) = ![t.val, 0, 0] ∧ cc1_transform_4 (grid1.coords t) = ![t.val, 0]
    ∧ cc1_transform_5 (grid1.coords t) = ![0, t.val] ∧ cc1_transform_6 (grid1.coords t) = ![0, t.val] := by decide +kernel

variable (V : (c : Dev nD) → (b : Ref sig .tc) → Buf (Elt Ideal) ((c.tc : Thread nD τ).loc b))
variable (a : (pcfg1 (F := Ideal)).Adm)

theorem idx1_0 (t : Fin grid1.N) : ((cfg1 a).win 0).index t = ![0, 0] := (maps t).2.2.1
theorem idx1_1 (t : Fin grid1.N) : ((cfg1 a).win 1).index t = ![0, 0] := (maps t).2.2.2.1
theorem idx1_2 (t : Fin grid1.N) : ((cfg1 a).win 2).index t = ![0, 0] := (maps t).2.2.2.2.1
theorem idx1_3 (t : Fin grid1.N) : ((cfg1 a).win 3).index t = ![t.val, 0, 0] := (maps t).2.2.2.2.2.1
theorem idx1_4 (t : Fin grid1.N) : ((cfg1 a).win 4).index t = ![t.val, 0] := (maps t).2.2.2.2.2.2.1
theorem idx1_5 (t : Fin grid1.N) : ((cfg1 a).win 5).index t = ![0, t.val] := (maps t).2.2.2.2.2.2.2.1
theorem idx1_6 (t : Fin grid1.N) : ((cfg1 a).win 6).index t = ![0, t.val] := (maps t).2.2.2.2.2.2.2.2

/-- The block `b` of pages is the one at the point of coordinate `b`. -/
theorem cover_map (i : grid1.Coords) (β : (a : Fin 2) → ℕ) (h0 : β 0 < 1) (h1 : β 1 = (i 0).val) (hi : (i 0).val < 32) (x : Fin 2) :
    (![0, (BitVec.ofNat 32 (i 0).val).toNat] : Fin 2 → ℕ) x = β x := by
  fin_cases x
  · show 0 = β 0
    omega
  · show (BitVec.ofNat 32 (i 0).val).toNat = β 1
    rw [BitVec.toNat_ofNat, h1]; omega

theorem nblk_5 (b : Fin 2) : ((cfg1 a).win 5).nblk b = ![1, 32] b := by
  unfold Pipeline.Window.nblk
  revert b
  exact (by decide : ∀ b : Fin 2, (S144x4096.size b + S144x128.size b - 1) / S144x128.size b = ![1, 32] b)

/-- Window 5's blocks tile its array. -/
theorem covers_5 : ((cfg1 a).win 5).Covers :=
  ((cfg1 a).win 5).covers_of_indexMap_surj rfl (fun i => (by decide : ∀ i : Fin 2, 0 < S144x128.size i) i) fun β =>
    ⟨fun x => ⟨(β (1 : Fin 2)).val, by
      obtain rfl : x = (0 : Fin 1) := Subsingleton.elim (α := Fin 1) _ _
      exact lt_of_lt_of_eq (β (1 : Fin 2)).isLt (nblk_5 a 1)⟩, fun i =>
      cover_map (fun x => ⟨(β (1 : Fin 2)).val, by
        obtain rfl : x = (0 : Fin 1) := Subsingleton.elim (α := Fin 1) _ _
        exact lt_of_lt_of_eq (β (1 : Fin 2)).isLt (nblk_5 a 1)⟩) (fun x => (β x).val) (lt_of_lt_of_eq (β (0 : Fin 2)).isLt (nblk_5 a 0)) rfl (lt_of_lt_of_eq (β (1 : Fin 2)).isLt (nblk_5 a 1)) i⟩

theorem nblk_6 (b : Fin 2) : ((cfg1 a).win 6).nblk b = ![1, 32] b := by
  unfold Pipeline.Window.nblk
  revert b
  exact (by decide : ∀ b : Fin 2, (S144x4096.size b + S144x128.size b - 1) / S144x128.size b = ![1, 32] b)

/-- Window 6's blocks tile its array. -/
theorem covers_6 : ((cfg1 a).win 6).Covers :=
  ((cfg1 a).win 6).covers_of_indexMap_surj rfl (fun i => (by decide : ∀ i : Fin 2, 0 < S144x128.size i) i) fun β =>
    ⟨fun x => ⟨(β (1 : Fin 2)).val, by
      obtain rfl : x = (0 : Fin 1) := Subsingleton.elim (α := Fin 1) _ _
      exact lt_of_lt_of_eq (β (1 : Fin 2)).isLt (nblk_6 a 1)⟩, fun i =>
      cover_map (fun x => ⟨(β (1 : Fin 2)).val, by
        obtain rfl : x = (0 : Fin 1) := Subsingleton.elim (α := Fin 1) _ _
        exact lt_of_lt_of_eq (β (1 : Fin 2)).isLt (nblk_6 a 1)⟩) (fun x => (β x).val) (lt_of_lt_of_eq (β (0 : Fin 2)).isLt (nblk_6 a 0)) rfl (lt_of_lt_of_eq (β (1 : Fin 2)).isLt (nblk_6 a 1)) i⟩

theorem blk1_0 (c : Dev nD) (t : Fin (cfg1 a).N) : iblk V a c 0 t = V c main_v4_4 := by blk_ext! [iblk, idx1_0 a t]
theorem blk1_1 (c : Dev nD) (t : Fin (cfg1 a).N) : iblk V a c 1 t = V c main_v4_5 := by blk_ext! [iblk, idx1_1 a t]
theorem blk1_2 (c : Dev nD) (t : Fin (cfg1 a).N) : iblk V a c 2 t = V c main_v12 := by blk_ext! [iblk, idx1_2 a t]

theorem blk1_3 (c : Dev nD) (t : Fin (cfg1 a).N) (k : Fin 128) (b : Fin 4) (l : Fin 1024) (h : 128 * t.val + k.val < 4096) :
    iblk V a c 3 t (ix3 k b l) = V c main_arg7 (ix3 ⟨128 * t.val + k.val, h⟩ b l) := by blk_ext [iblk, idx1_3 a t]
theorem blk1_4 (c : Dev nD) (t : Fin (cfg1 a).N) (k : Fin 128) (l : Fin 1024) (h : 128 * t.val + k.val < 4096) :
    iblk V a c 4 t (ix2 k l) = V c main_arg8 (ix2 ⟨128 * t.val + k.val, h⟩ l) := by blk_ext [iblk, idx1_4 a t]

/-- Block index `(r, l)` of output window 5 at point `t` is row `r`, page `128 t + l`. -/
theorem emb1_5 (t : Fin (cfg1 a).N) (r : Fin 144) (l : Fin 128) (h : 128 * t.val + l.val < 4096) :
    (((cfg1 a).win 5).blk t).view.emb (ix2 r l) = ix2 r ⟨128 * t.val + l.val, h⟩ := by blk_ext [idx1_5 a t]

theorem arr1_5 (c : Dev nD) : (dat V a c).arrAt 5 (cfg1 a).N
    = bestArr (V c main_v4_4) (V c main_v4_5) (V c main_v12) (V c main_arg7) (V c main_arg8) (tab a) := by
  refine (dat V a c).arrAt_eq_of_covers 5 _ (covers_5 a) fun t _ y => ?_
  blk_simp
  obtain ⟨r, l, rfl⟩ : ∃ (r : Fin 144) (l : Fin 128), y = ix2 r l := ⟨y (0 : Fin 2), y (1 : Fin 2), eq_ix2 y⟩
  have ht : t.val < 32 := (maps t).2.1
  have hc : (grid1.coords t 0).val = t.val := (maps t).1
  have h : 128 * t.val + l.val < 4096 := by omega
  rw [after_5, blk1_1, blk1_2, emb1_5 a t r l h]
  refine (pay6_apply _ _ _ r l).trans ?_
  unfold bestArr best
  rw [(st_apply (grid1.coords t) (tab a) (iblk V a c 0 t) (iblk V a c 3 t) (iblk V a c 4 t) r l (by rw [hc]; exact h) 128 le_rfl).1]
  rw [if_pos l.isLt, blk1_0]
  simp only [blk1_3 V a c t _ _ _ h, blk1_4 V a c t _ _ h, hc]
  rfl

/-- Block index `(r, l)` of output window 6 at point `t` is row `r`, page `128 t + l`. -/
theorem emb1_6 (t : Fin (cfg1 a).N) (r : Fin 144) (l : Fin 128) (h : 128 * t.val + l.val < 4096) :
    (((cfg1 a).win 6).blk t).view.emb (ix2 r l) = ix2 r ⟨128 * t.val + l.val, h⟩ := by blk_ext [idx1_6 a t]

theorem arr1_6 (c : Dev nD) : (dat V a c).arrAt 6 (cfg1 a).N
    = firstArr (V c main_v4_4) (V c main_v4_5) (V c main_v12) (V c main_arg7) (V c main_arg8) := by
  refine (dat V a c).arrAt_eq_of_covers 6 _ (covers_6 a) fun t _ y => ?_
  blk_simp
  obtain ⟨r, l, rfl⟩ : ∃ (r : Fin 144) (l : Fin 128), y = ix2 r l := ⟨y (0 : Fin 2), y (1 : Fin 2), eq_ix2 y⟩
  have ht : t.val < 32 := (maps t).2.1
  have hc : (grid1.coords t 0).val = t.val := (maps t).1
  have h : 128 * t.val + l.val < 4096 := by omega
  rw [after_6, blk1_1, blk1_2, emb1_6 a t r l h]
  refine (pay7_apply _ _ _ r l).trans ?_
  unfold firstArr best
  rw [(st_apply (grid1.coords t) (tab a) (iblk V a c 0 t) (iblk V a c 3 t) (iblk V a c 4 t) r l (by rw [hc]; exact h) 128 le_rfl).2]
  rw [if_pos l.isLt, blk1_0]
  simp only [blk1_3 V a c t _ _ _ h, blk1_4 V a c t _ _ h, hc]
  rfl

end Cert.KernelIdeal.Own.Score
end
-- ==== Proof.KernelIdeal.Reads.lean ====
/-
  What the host operations between the regions compute, and every returned buffer at the end as a term of the arguments.
-/
module

public import proofs.«01_k».proof.Proof.KernelIdeal.Results
public import proofs.«01_k».proof.Proof.KernelIdeal.ScoreResults

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (afterRegion)

/-! ## The kernel's results as functions of its arguments, rows flattened to 144 -/

section
variable (x : Vec Ideal S6x24x2048 .bf16) (g : Vec Ideal S2048 .f32) (w : Vec Ideal S2048x128 .i8) (ws b : Vec Ideal S128 .f32)

/-- The input rows, flattened, and the gain as one row. -/
def kX : Vec Ideal S144x2048 .bf16 := shapeCast S144x2048 x shapeCasts_S6x24x2048_S144x2048
def kG : Vec Ideal S1x2048 .f32 := broadcastInDim S1x2048 ![1] bcast_S2048_S1x2048_1 g
/-- A vector of 128 as one row. -/
def kRow : Vec Ideal S1x128 .f32 := broadcastInDim S1x128 ![1] bcast_S128_S1x128_1 ws
/-- The quantised input rows and their scales. -/
def kCodes : IVec S144x2048 8 := k0_pay4 (kX x) (kG g)
def kScale : FVec Ideal S144x1 .f32 := k0_pay2 (kX x) (kG g)
/-- The projection, the unit rows, and their quantised codes and scales. -/
def kY : FVec Ideal S144x128 .f32 := k0_pay7 (kScale x g) (k0_pay5 (kX x) (kG g)) (k0_pay6 w) (kRow ws) (kRow b)
def kE : FVec Ideal S144x128 .f32 := k0_pay8 (kScale x g) (k0_pay5 (kX x) (kG g)) (k0_pay6 w) (kRow ws) (kRow b)
def kQ : IVec S144x128 8 := k0_pay10 (kScale x g) (k0_pay5 (kX x) (kG g)) (k0_pay6 w) (kRow ws) (kRow b)
def kQs : FVec Ideal S144x1 .f32 := k0_pay9 (kScale x g) (k0_pay5 (kX x) (kG g)) (k0_pay6 w) (kRow ws) (kRow b)
end

/-- Which query rows are valid, one per flattened row. -/
def kOk (n : Vec Ideal S6 .i32) : Vec Ideal S144x1 .i32 :=
  shapeCast S144x1 (extui 32 (cmpi .slt (broadcastInDim S6x24 ![0, 1] bcast_S1x24_S6x24_0_1 (broadcastInDim S1x24 ![1] bcast_S24_S1x24_1 (iotaInDim S24 32 0)))
    (broadcastInDim S6x24 ![0, 1] bcast_S6x1_S6x24_0_1 (broadcastInDim S6x1 ![0] bcast_S6_S6x1_0 n))) natLt_1_32) shapeCasts_S6x24_S144x1

variable (m : (ℓ : Loc nD τ sig) → Buf (Elt Ideal) ℓ)

/-! ## Before the encoder -/

theorem W1_v0 (c : Dev nD) : W1 m c (Proc.devRef .tc main_v0) = shapeCast S144x2048 (m ((c.tc : Thread nD τ).loc main_arg0)) shapeCasts_S6x24x2048_S144x2048 := by
  unfold W1 hostOps0
  after_reads_simp
  rfl
theorem W1_v1 (c : Dev nD) : W1 m c (Proc.devRef .tc main_v1) = broadcastInDim S1x2048 ![1] bcast_S2048_S1x2048_1 (m ((c.tc : Thread nD τ).loc main_arg1)) := by
  unfold W1 hostOps0
  after_reads_simp
  rfl
theorem W1_v2 (c : Dev nD) : W1 m c (Proc.devRef .tc main_v2) = broadcastInDim S1x128 ![1] bcast_S128_S1x128_1 (m ((c.tc : Thread nD τ).loc main_arg3)) := by
  unfold W1 hostOps0
  after_reads_simp
  rfl
theorem W1_v3 (c : Dev nD) : W1 m c (Proc.devRef .tc main_v3) = broadcastInDim S1x128 ![1] bcast_S128_S1x128_1 (m ((c.tc : Thread nD τ).loc main_arg4)) := by
  unfold W1 hostOps0
  after_reads_simp
  rfl

theorem W1_arg2 (c : Dev nD) : W1 m c (Proc.devRef .tc main_arg2) = m ((c.tc : Thread nD τ).loc main_arg2) := W1_of m c main_arg2 (by decide)

/-! ## What the encoder leaves -/

theorem W2_v4_0 (c : Dev nD) : W2 m c (Proc.devRef .tc main_v4_0) = kCodes (m ((c.tc : Thread nD τ).loc main_arg0)) (m ((c.tc : Thread nD τ).loc main_arg1)) := by
  refine (Pipeline.afterRegion_arr (dat0 m c) (W1 m c) winFacts0.arr_inj 5).trans ((arr0_5 _ c).trans ?_)
  rw [W1_v0, W1_v1]; rfl
theorem W2_v4_1 (c : Dev nD) : W2 m c (Proc.devRef .tc main_v4_1) = kScale (m ((c.tc : Thread nD τ).loc main_arg0)) (m ((c.tc : Thread nD τ).loc main_arg1)) := by
  refine (Pipeline.afterRegion_arr (dat0 m c) (W1 m c) winFacts0.arr_inj 6).trans ((arr0_6 _ c).trans ?_)
  rw [W1_v0, W1_v1]; rfl
theorem W2_v4_2 (c : Dev nD) : W2 m c (Proc.devRef .tc main_v4_2) = kY (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (Pipeline.afterRegion_arr (dat0 m c) (W1 m c) winFacts0.arr_inj 7).trans ((arr0_7 _ c).trans ?_)
  rw [W1_v0, W1_v1, W1_v2, W1_v3, W1_arg2]; rfl
theorem W2_v4_3 (c : Dev nD) : W2 m c (Proc.devRef .tc main_v4_3) = kE (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (Pipeline.afterRegion_arr (dat0 m c) (W1 m c) winFacts0.arr_inj 8).trans ((arr0_8 _ c).trans ?_)
  rw [W1_v0, W1_v1, W1_v2, W1_v3, W1_arg2]; rfl
theorem W2_v4_4 (c : Dev nD) : W2 m c (Proc.devRef .tc main_v4_4) = kQ (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (Pipeline.afterRegion_arr (dat0 m c) (W1 m c) winFacts0.arr_inj 9).trans ((arr0_9 _ c).trans ?_)
  rw [W1_v0, W1_v1, W1_v2, W1_v3, W1_arg2]; rfl
theorem W2_v4_5 (c : Dev nD) : W2 m c (Proc.devRef .tc main_v4_5) = kQs (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (Pipeline.afterRegion_arr (dat0 m c) (W1 m c) winFacts0.arr_inj 10).trans ((arr0_10 _ c).trans ?_)
  rw [W1_v0, W1_v1, W1_v2, W1_v3, W1_arg2]; rfl

/-- An output of the encoder that nothing later writes is at the end what the encoder left. -/
theorem W6_keeps (c : Dev nD) (r : Ref sig .tc) (h : r ∉ hostOps1_W ∧ r ∉ hostOps2_W ∧ (∀ w, Pipeline.arrRef spec1 w = r → (spec1 w).isOut = false)
      ∧ ∀ w, Pipeline.arrRef spec2 w = r → (spec2 w).isOut = false) :
    W6 m c (Proc.devRef .tc r) = W2 m c (Proc.devRef .tc r) :=
  (W6_of m c r h.2.2.2).trans ((W5_of m c r h.2.1).trans ((W4_of m c r h.2.2.1).trans (W3_of m c r h.1)))

/-! ## The scores -/

theorem W3_v12 (c : Dev nD) : W3 m c (Proc.devRef .tc main_v12) = kOk (m ((c.tc : Thread nD τ).loc main_arg6)) := by
  have h : W2 m c (Proc.devRef .tc main_arg6) = m ((c.tc : Thread nD τ).loc main_arg6) :=
    (W2_of m c main_arg6 (by decide)).trans (W1_of m c main_arg6 (by decide))
  unfold W3 hostOps1
  after_reads_simp
  rw [h]
  rfl

/-- The best and the first scores, one row per flattened query row. -/
def kBest (c : Dev nD) : FVec Ideal S144x4096 .f32 :=
  Score.bestArr (W2 m c (Proc.devRef .tc main_v4_4)) (W2 m c (Proc.devRef .tc main_v4_5)) (kOk (m ((c.tc : Thread nD τ).loc main_arg6)))
    (m ((c.tc : Thread nD τ).loc main_arg7)) (m ((c.tc : Thread nD τ).loc main_arg8)) (m ((c.tc : Thread nD τ).loc main_arg9))
def kFirst (c : Dev nD) : FVec Ideal S144x4096 .f32 :=
  Score.firstArr (W2 m c (Proc.devRef .tc main_v4_4)) (W2 m c (Proc.devRef .tc main_v4_5)) (kOk (m ((c.tc : Thread nD τ).loc main_arg6)))
    (m ((c.tc : Thread nD τ).loc main_arg7)) (m ((c.tc : Thread nD τ).loc main_arg8))

theorem W4_v13_0 (c : Dev nD) : W4 m c (Proc.devRef .tc main_v13_0) = kBest m c := by
  refine (Pipeline.afterRegion_arr (dat1 m c) (W3 m c) winFacts1.arr_inj 5).trans ((Score.arr1_5 _ (adm m 1) c).trans ?_)
  obtain rfl : c = 0 := Subsingleton.elim _ _
  rw [W3_v12, W3_of m 0 main_v4_4 (by decide), W3_of m 0 main_v4_5 (by decide), W3_keeps m 0 main_arg7 (by decide), W3_keeps m 0 main_arg8 (by decide)]
  rfl
theorem W4_v13_1 (c : Dev nD) : W4 m c (Proc.devRef .tc main_v13_1) = kFirst m c := by
  refine (Pipeline.afterRegion_arr (dat1 m c) (W3 m c) winFacts1.arr_inj 6).trans ((Score.arr1_6 _ (adm m 1) c).trans ?_)
  rw [W3_v12, W3_of m c main_v4_4 (by decide), W3_of m c main_v4_5 (by decide), W3_keeps m c main_arg7 (by decide), W3_keeps m c main_arg8 (by decide)]
  rfl

/-! ## The statistics -/

theorem W5_v14 (c : Dev nD) : W5 m c (Proc.devRef .tc main_v14) = shapeCast S6x24x4096 (kBest m c) shapeCasts_S144x4096_S6x24x4096 := by
  unfold W5 hostOps2
  after_reads_simp
  rw [W4_v13_0]
  rfl
theorem W5_v15 (c : Dev nD) : W5 m c (Proc.devRef .tc main_v15) = shapeCast S6x24x4096 (kFirst m c) shapeCasts_S144x4096_S6x24x4096 := by
  unfold W5 hostOps2
  after_reads_simp
  rw [W4_v13_1]
  rfl
theorem W5_v16 (c : Dev nD) : W5 m c (Proc.devRef .tc main_v16) = broadcastInDim S6x1 ![0] bcast_S6_S6x1_0 (m ((c.tc : Thread nD τ).loc main_arg5)) := by
  have h : W4 m c (Proc.devRef .tc main_arg5) = m ((c.tc : Thread nD τ).loc main_arg5) :=
    (W4_of m c main_arg5 (by decide)).trans (W3_keeps m c main_arg5 (by decide))
  unfold W5 hostOps2
  after_reads_simp
  rw [h]

theorem W6_v17_0 (c : Dev nD) : W6 m c (Proc.devRef .tc main_v17_0) = k2_pay1 (W5 m c (Proc.devRef .tc main_v14)) :=
  (Pipeline.afterRegion_arr (dat2 m c) (W5 m c) winFacts2.arr_inj 2).trans (arr2_2 _ c)
theorem W6_v17_1 (c : Dev nD) : W6 m c (Proc.devRef .tc main_v17_1) = k2_pay2 (W5 m c (Proc.devRef .tc main_v14)) :=
  (Pipeline.afterRegion_arr (dat2 m c) (W5 m c) winFacts2.arr_inj 3).trans (arr2_3 _ c)
theorem W6_v17_2 (c : Dev nD) : W6 m c (Proc.devRef .tc main_v17_2) = k2_pay3 (W5 m c (Proc.devRef .tc main_v14)) (W5 m c (Proc.devRef .tc main_v16)) :=
  (Pipeline.afterRegion_arr (dat2 m c) (W5 m c) winFacts2.arr_inj 4).trans (arr2_4 _ c)

/-! ## The results at the end -/

theorem W7_v17_0 (c : Dev nD) : W7 m c (Proc.devRef .tc main_v17_0) = k2_pay1 (F := Ideal) (shapeCast S6x24x4096 (kBest m c) shapeCasts_S144x4096_S6x24x4096) := by
  rw [W7_of m c main_v17_0 (by decide), W6_v17_0, W5_v14]
theorem W7_v18 (c : Dev nD) : W7 m c (Proc.devRef .tc main_v18) = shapeCast S6 (k2_pay3 (F := Ideal) (shapeCast S6x24x4096 (kBest m c) shapeCasts_S144x4096_S6x24x4096)
    (broadcastInDim S6x1 ![0] bcast_S6_S6x1_0 (m ((c.tc : Thread nD τ).loc main_arg5)))) shapeCasts_S6x1_S6 := by
  unfold W7 hostOps3
  after_reads_simp
  rw [W6_v17_2, W5_v14, W5_v16]
  rfl
theorem W7_v19 (c : Dev nD) : W7 m c (Proc.devRef .tc main_v19) = shapeCast S6 (k2_pay2 (F := Ideal) (shapeCast S6x24x4096 (kBest m c) shapeCasts_S144x4096_S6x24x4096)) shapeCasts_S6x1_S6 := by
  unfold W7 hostOps3
  after_reads_simp
  rw [W6_v17_1, W5_v14]
  rfl
theorem W7_v14 (c : Dev nD) : W7 m c (Proc.devRef .tc main_v14) = shapeCast S6x24x4096 (kBest m c) shapeCasts_S144x4096_S6x24x4096 := by
  rw [W7_of m c main_v14 (by decide), W6_of m c main_v14 (by decide), W5_v14]
theorem W7_v15 (c : Dev nD) : W7 m c (Proc.devRef .tc main_v15) = shapeCast S6x24x4096 (kFirst m c) shapeCasts_S144x4096_S6x24x4096 := by
  rw [W7_of m c main_v15 (by decide), W6_of m c main_v15 (by decide), W5_v15]
theorem W7_v20 (c : Dev nD) : W7 m c (Proc.devRef .tc main_v20) = shapeCast S6x24x128 (W2 m c (Proc.devRef .tc main_v4_3)) shapeCasts_S144x128_S6x24x128 := by
  unfold W7 hostOps3
  after_reads_simp
  rw [W6_keeps m c main_v4_3 (by decide)]
  rfl
theorem W7_v21 (c : Dev nD) : W7 m c (Proc.devRef .tc main_v21) = shapeCast S6x24x128 (W2 m c (Proc.devRef .tc main_v4_2)) shapeCasts_S144x128_S6x24x128 := by
  unfold W7 hostOps3
  after_reads_simp
  rw [W6_keeps m c main_v4_2 (by decide)]
  rfl
theorem W7_v22 (c : Dev nD) : W7 m c (Proc.devRef .tc main_v22) = shapeCast S6x24x2048 (W2 m c (Proc.devRef .tc main_v4_0)) shapeCasts_S144x2048_S6x24x2048 := by
  unfold W7 hostOps3
  after_reads_simp
  rw [W6_keeps m c main_v4_0 (by decide)]
  rfl
theorem W7_v23 (c : Dev nD) : W7 m c (Proc.devRef .tc main_v23) = shapeCast S6x24 (W2 m c (Proc.devRef .tc main_v4_1)) shapeCasts_S144x1_S6x24 := by
  unfold W7 hostOps3
  after_reads_simp
  rw [W6_keeps m c main_v4_1 (by decide)]
  rfl
theorem W7_v24 (c : Dev nD) : W7 m c (Proc.devRef .tc main_v24) = shapeCast S6x24x128 (W2 m c (Proc.devRef .tc main_v4_4)) shapeCasts_S144x128_S6x24x128 := by
  unfold W7 hostOps3
  after_reads_simp
  rw [W6_keeps m c main_v4_4 (by decide)]
  rfl
theorem W7_v25 (c : Dev nD) : W7 m c (Proc.devRef .tc main_v25) = shapeCast S6x24 (W2 m c (Proc.devRef .tc main_v4_5)) shapeCasts_S144x1_S6x24 := by
  unfold W7 hostOps3
  after_reads_simp
  rw [W6_keeps m c main_v4_5 (by decide)]
  rfl

end Cert.KernelIdeal.Own
end
-- ==== Proof.Value.Rows.lean ====
/-
  The encoder's results row by row: query row `24 b + t` of the kernel's flattened arrays is row `(b, t)` of the reference's.
-/
module

public import proofs.«01_k».proof.Proof.KernelIdeal.Reads
public import proofs.«01_k».proof.Proof.Gen.ReferenceIdeal.Run

@[expose] public section

set_option maxRecDepth 16384

noncomputable section

namespace Cert.Rows

open Cert.KernelIdeal.Gen Cert.KernelIdeal.Own Cert.ReferenceIdeal.Value
open Idealize.ShloMosaic Idealize.ShloMosaic.TcCoe Idealize.SL.Sem

/-- The flattened number of row `t` of batch `b`. -/
def row (b : Fin 6) (t : Fin 24) : Fin 144 := ⟨b.val * 24 + t.val, by omega⟩

variable (V : Valuation Cert.ReferenceIdeal.τ Cert.ReferenceIdeal.sig (Elt Ideal))

/-- The reference's arguments. -/
abbrev aX : Vec Ideal Cert.KernelIdeal.S6x24x2048 .bf16 := V (Proc.devRef .tc Cert.ReferenceIdeal.main_arg0)
abbrev aG : Vec Ideal Cert.KernelIdeal.S2048 .f32 := V (Proc.devRef .tc Cert.ReferenceIdeal.main_arg1)
abbrev aW : Vec Ideal Cert.KernelIdeal.S2048x128 .i8 := V (Proc.devRef .tc Cert.ReferenceIdeal.main_arg2)
abbrev aWs : Vec Ideal Cert.KernelIdeal.S128 .f32 := V (Proc.devRef .tc Cert.ReferenceIdeal.main_arg3)
abbrev aB : Vec Ideal Cert.KernelIdeal.S128 .f32 := V (Proc.devRef .tc Cert.ReferenceIdeal.main_arg4)

theorem kX_apply (x : Vec Ideal Cert.KernelIdeal.S6x24x2048 .bf16) (b : Fin 6) (t : Fin 24) (k : Fin 2048) : kX x (ix2 (row b t) k) = x (ix3 b t k) := by
  unfold kX row
  pointwise
theorem kG_apply (g : Vec Ideal Cert.KernelIdeal.S2048 .f32) (k : Fin 2048) : kG g (ix2 0 k) = g (Idealize.ShloMosaic.ix1 k) := by
  unfold kG
  pointwise!
theorem kRow_apply (g : Vec Ideal Cert.KernelIdeal.S128 .f32) (k : Fin 128) : kRow g (ix2 0 k) = g (Idealize.ShloMosaic.ix1 k) := by
  unfold kRow
  pointwise!

theorem norm_eq (b : Fin 6) (t : Fin 24) (k : Fin 2048) : k0_pay1 (kX (aX V)) (kG (aG V)) (ix2 (row b t) k) = res_main_v13 V (ix3 b t k) := by
  pointwise [k0_pay1, res_main_v13, res_main_v0]
  simp only [kX_apply, kG_apply]

theorem amax_ref (b : Fin 6) (t : Fin 24) : res_main_v15 V (ix2 b t)
    = Finset.univ.fold max (Ideal.ofBits FTy.f32 0xFF800000#32) fun k : Fin 2048 => FloatOps.absf (F := Ideal) (φ := .f32) (res_main_v13 V (ix3 b t k)) := by
  unfold res_main_v15
  clean_types
  pointwise

theorem scale_eq (b : Fin 6) (t : Fin 24) : k0_pay2 (kX (aX V)) (kG (aG V)) (ix2 (row b t) 0) = res_main_v20 V (ix2 b t) := by
  unfold res_main_v20
  clean_types
  pointwise [k0_pay2]
  simp only [norm_eq, amax_ref]
  rw [show id (constant (F := Ideal) Cert.ReferenceIdeal.S_ FTy.f32 0x3F800000#32) ix0 = 1 from Page.ofBits_pos_one]

/-- A row of the reference's codes. -/
theorem clip_eq (b : Fin 6) (t : Fin 24) (k : Fin 2048) : k0_pay3 (kX (aX V)) (kG (aG V)) (ix2 (row b t) k)
    = Page.clip (Ideal.div (res_main_v13 V (ix3 b t k)) (res_main_v20 V (ix2 b t))) := by
  pointwise [k0_pay3]
  simp only [norm_eq, scale_eq]
  unfold Page.clip
  rw [Page.ofBits_lo, Page.ofBits_hi]

theorem codes_eq (b : Fin 6) (t : Fin 24) (k : Fin 2048) : kCodes (aX V) (aG V) (ix2 (row b t) k)
    = Page.code (Ideal.div (res_main_v13 V (ix3 b t k)) (res_main_v20 V (ix2 b t))) := by
  unfold kCodes
  pointwise [k0_pay4]
  rw [clip_eq]
  rfl

/-- The reference's int8 code, taken by way of int32, -/
theorem ref_code (z : EReal) : (FloatOps.fptosi (F := Ideal) (φ := .f32) 32 (min (id (constant (F := Ideal) Cert.ReferenceIdeal.S_ FTy.f32 0x42FE0000#32) ix0)
    (max (id (constant (F := Ideal) Cert.ReferenceIdeal.S_ FTy.f32 0xC2FE0000#32) ix0) (Ideal.liftRound Ideal.roundHalfEven z)))).setWidth 8 = Page.code z := by
  rw [show id (constant (F := Ideal) Cert.ReferenceIdeal.S_ FTy.f32 0x42FE0000#32) ix0 = ((127 : ℝ) : EReal) from Page.ofBits_hi,
    show id (constant (F := Ideal) Cert.ReferenceIdeal.S_ FTy.f32 0xC2FE0000#32) ix0 = ((-127 : ℝ) : EReal) from Page.ofBits_lo]
  exact Page.code_via z
/-- and a widened code as a number. -/
theorem num_ext (q : BitVec 8) : FloatOps.sitofp (F := Ideal) FTy.bf16 (q.signExtend 32) = Page.num q := by
  show (((q.signExtend 32).toInt : ℝ) : EReal) = ((q.toInt : ℝ) : EReal)
  rw [BitVec.toInt_signExtend_of_le (by norm_num)]
theorem num_int (q : BitVec 8) : FloatOps.sitofp (F := Ideal) FTy.bf16 q = Page.num q := rfl

/-- The reference's returned codes of the input rows. -/
theorem codes_ref (b : Fin 6) (t : Fin 24) (k : Fin 2048) :
    trunci 8 (fptosi (F := Ideal) (φ := .f32) 32 (minimumf (broadcastInDim Cert.ReferenceIdeal.S6x24x2048 ![] Cert.ReferenceIdeal.Gen.bcast_S_S6x24x2048 (id (constant Cert.ReferenceIdeal.S_ .f32 0x42FE0000#32)))
      (maximumf (broadcastInDim Cert.ReferenceIdeal.S6x24x2048 ![] Cert.ReferenceIdeal.Gen.bcast_S_S6x24x2048 (id (constant Cert.ReferenceIdeal.S_ .f32 0xC2FE0000#32)))
      (Host.roundeven (Host.divf (res_main_v13 V) (broadcastInDim Cert.ReferenceIdeal.S6x24x2048 ![0, 1, 2] Cert.ReferenceIdeal.Gen.bcast_S6x24x1_S6x24x2048_0_1_2
      (broadcastInDim Cert.ReferenceIdeal.S6x24x1 ![0, 1] Cert.ReferenceIdeal.Gen.bcast_S6x24_S6x24x1_0_1 (res_main_v20 V)))))))) Cert.ReferenceIdeal.Gen.natLt_8_32 (ix3 b t k)
    = Page.code (Ideal.div (res_main_v13 V (ix3 b t k)) (res_main_v20 V (ix2 b t))) := by
  pointwise
  exact ref_code _

end Cert.Rows
end
-- ==== Proof.Value.Project.lean ====
/-
  The projected rows: the reference's projection, unit rows and their codes, row by row the kernel's.
-/
module

public import proofs.«01_k».proof.Proof.Value.Rows

@[expose] public section

set_option maxRecDepth 16384

noncomputable section

namespace Cert.Rows

open Cert.KernelIdeal.Gen Cert.KernelIdeal.Own Cert.ReferenceIdeal.Value
open Idealize.ShloMosaic Idealize.ShloMosaic.TcCoe Idealize.SL.Sem

variable (V : Valuation Cert.ReferenceIdeal.τ Cert.ReferenceIdeal.sig (Elt Ideal))

theorem y_eq (b : Fin 6) (t : Fin 24) (e : Fin 128) : kY (aX V) (aG V) (aW V) (aWs V) (aB V) (ix2 (row b t) e) = res_main_v41 V (ix3 b t e) := by
  unfold res_main_v41 kY kScale
  clean_types
  pointwise [k0_pay7, k0_pay5, k0_pay6]
  simp only [clip_eq, scale_eq, kRow_apply, ref_code, num_ext, num_int, Page.num_code]

theorem e_eq (b : Fin 6) (t : Fin 24) (e : Fin 128) : kE (aX V) (aG V) (aW V) (aWs V) (aB V) (ix2 (row b t) e) = res_main_v47 V (ix3 b t e) := by
  have h := fun e => y_eq V b t e
  unfold kY at h
  unfold res_main_v47 kE
  clean_types
  pointwise [k0_pay8]
  simp only [h]

theorem qamax_ref (b : Fin 6) (t : Fin 24) : res_main_v49 V (ix2 b t)
    = Finset.univ.fold max (Ideal.ofBits FTy.f32 0xFF800000#32) fun k : Fin 128 => FloatOps.absf (F := Ideal) (φ := .f32) (res_main_v47 V (ix3 b t k)) := by
  unfold res_main_v49
  clean_types
  pointwise

theorem qscale_eq (b : Fin 6) (t : Fin 24) : kQs (aX V) (aG V) (aW V) (aWs V) (aB V) (ix2 (row b t) 0) = res_main_v54 V (ix2 b t) := by
  have h := fun e => e_eq V b t e
  unfold kE at h
  unfold res_main_v54 kQs
  clean_types
  pointwise [k0_pay9]
  simp only [h, qamax_ref]
  rw [show id (constant (F := Ideal) Cert.ReferenceIdeal.S_ FTy.f32 0x3F800000#32) ix0 = 1 from Page.ofBits_pos_one]

theorem qcodes_eq (b : Fin 6) (t : Fin 24) (e : Fin 128) : kQ (aX V) (aG V) (aW V) (aWs V) (aB V) (ix2 (row b t) e)
    = Page.code (Ideal.div (res_main_v47 V (ix3 b t e)) (res_main_v54 V (ix2 b t))) := by
  have h := e_eq V b t e
  have h' := qscale_eq V b t
  unfold kE at h
  unfold kQs at h'
  unfold kQ
  pointwise [k0_pay10]
  rw [h, h']
  unfold Page.code Page.clip
  rw [Page.ofBits_lo, Page.ofBits_hi]
  rfl

/-- The reference's returned codes of the unit rows, -/
theorem qcodes_ref (b : Fin 6) (t : Fin 24) (e : Fin 128) :
    trunci 8 (fptosi (F := Ideal) (φ := .f32) 32 (minimumf (broadcastInDim Cert.ReferenceIdeal.S6x24x128 ![] Cert.ReferenceIdeal.Gen.bcast_S_S6x24x128 (id (constant Cert.ReferenceIdeal.S_ .f32 0x42FE0000#32)))
      (maximumf (broadcastInDim Cert.ReferenceIdeal.S6x24x128 ![] Cert.ReferenceIdeal.Gen.bcast_S_S6x24x128 (id (constant Cert.ReferenceIdeal.S_ .f32 0xC2FE0000#32)))
      (Host.roundeven (Host.divf (res_main_v47 V) (broadcastInDim Cert.ReferenceIdeal.S6x24x128 ![0, 1, 2] Cert.ReferenceIdeal.Gen.bcast_S6x24x1_S6x24x128_0_1_2
      (broadcastInDim Cert.ReferenceIdeal.S6x24x1 ![0, 1] Cert.ReferenceIdeal.Gen.bcast_S6x24_S6x24x1_0_1 (res_main_v54 V)))))))) Cert.ReferenceIdeal.Gen.natLt_8_32 (ix3 b t e)
    = Page.code (Ideal.div (res_main_v47 V (ix3 b t e)) (res_main_v54 V (ix2 b t))) := by
  pointwise
  exact ref_code _

/-- and as the scores read them: the kernel's codes as numbers, rows flattened. -/
theorem qwide_ref (b : Fin 6) (t : Fin 24) (e : Fin 128) : res_main_v64 V (ix2 (row b t) e) = Page.num (kQ (aX V) (aG V) (aW V) (aWs V) (aB V) (ix2 (row b t) e)) := by
  rw [qcodes_eq]
  unfold res_main_v64 row
  clean_types
  pointwise
  simp only [ref_code, num_ext]

end Cert.Rows
end
-- ==== Proof.Value.Results.lean ====
/-
  The encoder's six results as whole arrays, rows unflattened: the reference's.
-/
module

public import proofs.«01_k».proof.Proof.Value.Project

@[expose] public section

set_option maxRecDepth 16384

noncomputable section

namespace Cert.Rows

open Cert.ReferenceIdeal Cert.ReferenceIdeal.Gen Cert.ReferenceIdeal.Value
open Cert.KernelIdeal.Own (kCodes kScale kY kE kQ kQs)
open Idealize.ShloMosaic Idealize.ShloMosaic.TcCoe Idealize.SL.Sem

variable (V : Valuation τ sig (Elt Ideal))

/-! Reading an unflattened array of each shape. -/
theorem flat_wide {α : Type} (x : S144x128.Idx → α) (b : Fin 6) (t : Fin 24) (e : Fin 128) :
    shapeCast S6x24x128 x Cert.KernelIdeal.Gen.shapeCasts_S144x128_S6x24x128 (ix3 b t e) = x (ix2 (row b t) e) := by
  unfold row
  pointwise
theorem flat_full {α : Type} (x : Cert.KernelIdeal.S144x2048.Idx → α) (b : Fin 6) (t : Fin 24) (k : Fin 2048) :
    shapeCast S6x24x2048 x Cert.KernelIdeal.Gen.shapeCasts_S144x2048_S6x24x2048 (ix3 b t k) = x (ix2 (row b t) k) := by
  unfold row
  pointwise
theorem flat_col {α : Type} (x : Cert.KernelIdeal.S144x1.Idx → α) (b : Fin 6) (t : Fin 24) :
    shapeCast S6x24 x Cert.KernelIdeal.Gen.shapeCasts_S144x1_S6x24 (ix2 b t) = x (ix2 (row b t) 0) := by
  unfold row
  pointwise

/-- The projection, the unit rows, the scales of the input rows and of the unit rows, -/
theorem y_all : shapeCast S6x24x128 (kY (aX V) (aG V) (aW V) (aWs V) (aB V)) Cert.KernelIdeal.Gen.shapeCasts_S144x128_S6x24x128 = res_main_v41 V := by
  funext j; idx_vars j; exact (flat_wide _ j0 j1 j2).trans (y_eq V j0 j1 j2)
theorem e_all : shapeCast S6x24x128 (kE (aX V) (aG V) (aW V) (aWs V) (aB V)) Cert.KernelIdeal.Gen.shapeCasts_S144x128_S6x24x128 = res_main_v47 V := by
  funext j; idx_vars j; exact (flat_wide _ j0 j1 j2).trans (e_eq V j0 j1 j2)
theorem scale_all : shapeCast S6x24 (kScale (aX V) (aG V)) Cert.KernelIdeal.Gen.shapeCasts_S144x1_S6x24 = res_main_v20 V := by
  funext j; idx_vars j; exact (flat_col _ j0 j1).trans (scale_eq V j0 j1)
theorem qscale_all : shapeCast S6x24 (kQs (aX V) (aG V) (aW V) (aWs V) (aB V)) Cert.KernelIdeal.Gen.shapeCasts_S144x1_S6x24 = res_main_v54 V := by
  funext j; idx_vars j; exact (flat_col _ j0 j1).trans (qscale_eq V j0 j1)
/-- the codes of the input rows, -/
theorem codes_all : shapeCast S6x24x2048 (kCodes (aX V) (aG V)) Cert.KernelIdeal.Gen.shapeCasts_S144x2048_S6x24x2048
    = trunci 8 (fptosi (F := Ideal) (φ := .f32) 32 (minimumf (broadcastInDim S6x24x2048 ![] bcast_S_S6x24x2048 (id (constant S_ .f32 0x42FE0000#32)))
      (maximumf (broadcastInDim S6x24x2048 ![] bcast_S_S6x24x2048 (id (constant S_ .f32 0xC2FE0000#32)))
      (Host.roundeven (Host.divf (res_main_v13 V) (broadcastInDim S6x24x2048 ![0, 1, 2] bcast_S6x24x1_S6x24x2048_0_1_2
      (broadcastInDim S6x24x1 ![0, 1] bcast_S6x24_S6x24x1_0_1 (res_main_v20 V)))))))) natLt_8_32 := by
  funext j; idx_vars j
  exact (flat_full _ j0 j1 j2).trans ((codes_eq V j0 j1 j2).trans (codes_ref V j0 j1 j2).symm)
/-- and of the unit rows. -/
theorem qcodes_all : shapeCast S6x24x128 (kQ (aX V) (aG V) (aW V) (aWs V) (aB V)) Cert.KernelIdeal.Gen.shapeCasts_S144x128_S6x24x128
    = trunci 8 (fptosi (F := Ideal) (φ := .f32) 32 (minimumf (broadcastInDim S6x24x128 ![] bcast_S_S6x24x128 (id (constant S_ .f32 0x42FE0000#32)))
      (maximumf (broadcastInDim S6x24x128 ![] bcast_S_S6x24x128 (id (constant S_ .f32 0xC2FE0000#32)))
      (Host.roundeven (Host.divf (res_main_v47 V) (broadcastInDim S6x24x128 ![0, 1, 2] bcast_S6x24x1_S6x24x128_0_1_2
      (broadcastInDim S6x24x1 ![0, 1] bcast_S6x24_S6x24x1_0_1 (res_main_v54 V)))))))) natLt_8_32 := by
  funext j; idx_vars j
  exact (flat_wide _ j0 j1 j2).trans ((qcodes_eq V j0 j1 j2).trans (qcodes_ref V j0 j1 j2).symm)

end Cert.Rows
end
-- ==== Proof.Value.Scores.lean ====
/-
  The page scores: the reference substitutes a page's first column for the columns past its end, which changes no maximum as
  every page has a first column; the kernel takes the same maximum over the valid columns only.
-/
module

public import proofs.«01_k».proof.Proof.KernelIdeal.Reads
public import proofs.«01_k».proof.Proof.Gen.ReferenceIdeal.Run

@[expose] public section

set_option maxRecDepth 16384

noncomputable section

namespace Cert.Scores

open Cert.ReferenceIdeal Cert.ReferenceIdeal.Gen Cert.ReferenceIdeal.Value
open Idealize.ShloMosaic Idealize.ShloMosaic.TcCoe Idealize.SL.Sem

variable (V : Valuation τ sig (Elt Ideal))

/-- The reference's arguments the scores read. -/
abbrev aLen : Vec Ideal S6 .i32 := V (Proc.devRef .tc main_arg6)
abbrev aWords : Vec Ideal S4096x4x1024 .i32 := V (Proc.devRef .tc main_arg7)
abbrev aScale : Vec Ideal S4096x1024 .f32 := V (Proc.devRef .tc main_arg8)
abbrev aPages : Vec Ideal S4096 .i32 := V (Proc.devRef .tc main_arg9)

/-- Padding a maximum with one of the values it ranges over changes nothing. -/
theorem fold_pad (f : Fin 1024 → EReal) (n : ℤ) (hn : 1 ≤ n) :
    (Finset.univ.fold max ⊥ fun l : Fin 1024 => if (l.val : ℤ) < n then f l else f 0)
      = Finset.univ.fold max ⊥ fun l : Fin 1024 => if (l.val : ℤ) < n then f l else ⊥ := by
  apply le_antisymm
  · rw [Finset.fold_max_le]
    refine ⟨bot_le, fun l _ => ?_⟩
    rw [Finset.le_fold_max]
    right
    by_cases h : (l.val : ℤ) < n
    · exact ⟨l, Finset.mem_univ _, by rw [if_pos h, if_pos h]⟩
    · exact ⟨0, Finset.mem_univ _, by rw [if_neg h, if_pos (by show ((0 : ℕ) : ℤ) < n; omega)]⟩
  · rw [Finset.fold_max_le]
    refine ⟨bot_le, fun l _ => ?_⟩
    rw [Finset.le_fold_max]
    right
    refine ⟨l, Finset.mem_univ _, ?_⟩
    by_cases h : (l.val : ℤ) < n
    · rw [if_pos h, if_pos h]
    · rw [if_neg h]; exact bot_le

/-! ## The reference's parts -/

/-- The words and the scales of the reference's columns: a page's own up to its length, its first from there. -/
def words : Vec Ideal S4096x4x1024 .i32 :=
  select (broadcastInDim S4096x4x1024 ![0, 1, 2] bcast_S4096x1x1024_S4096x4x1024_0_1_2 (broadcastInDim S4096x1x1024 ![0, 2] bcast_S4096x1024_S4096x1x1024_0_2 (res_main_v96 V))) (V (Proc.devRef .tc main_arg7)) (broadcastInDim S4096x4x1024 ![0, 1, 2] bcast_S4096x4x1_S4096x4x1024_0_1_2 (broadcastInDim S4096x4x1 ![0, 1] bcast_S4096x4_S4096x4x1_0_1 (res_main_v66 V)))
def scales : FVec Ideal S4096x1024 .f32 :=
  select (res_main_v96 V) (V (Proc.devRef .tc main_arg8)) (broadcastInDim S4096x1024 ![0, 1] bcast_S4096x1_S4096x1024_0_1 (broadcastInDim S4096x1 ![0] bcast_S4096_S4096x1_0 (res_main_v68 V)))
/-- The signs packed in words. -/
def signs (w : Vec Ideal S4096x4x1024 .i32) : FVec Ideal S4096x128x1024 .bf16 :=
  shapeCast _ (truncf (F := Ideal) .bf16 (select (cmpi .eq (andi (Host.shrsi (broadcastInDim S4096x4x32x1024 ![0, 1, 2, 3] bcast_S4096x4x1x1024_S4096x4x32x1024_0_1_2_3 (broadcastInDim S4096x4x1x1024 ![0, 1, 3] bcast_S4096x4x1024_S4096x4x1x1024_0_1_3 w)) (broadcastInDim S4096x4x32x1024 ![0, 1, 2, 3] bcast_S1x1x32x1_S4096x4x32x1024_0_1_2_3 (broadcastInDim S1x1x32x1 ![2, 3] bcast_S32x1_S1x1x32x1_2_3 (broadcastInDim S32x1 ![0] bcast_S32_S32x1_0 (iotaInDim S32 32 0))))) (broadcastInDim S4096x4x32x1024 ![] bcast_S_S4096x4x32x1024 (constantI S_ 32 1#32))) (broadcastInDim S4096x4x32x1024 ![] bcast_S_S4096x4x32x1024 (constantI S_ 32 1#32))) (broadcastInDim S4096x4x32x1024 ![] bcast_S_S4096x4x32x1024 (constant S_ .f32 0x3F800000#32)) (broadcastInDim S4096x4x32x1024 ![] bcast_S_S4096x4x32x1024 (constant S_ .f32 0xBF800000#32))) bitsLt_bf16_f32) shapeCasts_S4096x4x32x1024_S4096x128x1024
/-- Every column's similarity. -/
def sims (q : FVec Ideal S144x128 .bf16) (sg : FVec Ideal S4096x128x1024 .bf16) (s : FVec Ideal S4096x1024 .f32) : FVec Ideal S4096x144x1024 .f32 :=
  mulf (Host.dotGeneral dot_S4096x144x128_S4096x128x1024_S4096x144x1024_2_1_1_2_0_0 none (broadcastInDim S4096x144x128 ![1, 2] bcast_S144x128_S4096x144x128_1_2 q) sg) (broadcastInDim S4096x144x1024 ![0, 1, 2] bcast_S4096x1x1024_S4096x144x1024_0_1_2 (broadcastInDim S4096x1x1024 ![0, 2] bcast_S4096x1024_S4096x1x1024_0_2 s))
/-- Their maximum, -/
def maxes (x : FVec Ideal S4096x144x1024 .f32) : FVec Ideal S4096x144 .f32 :=
  Host.reduce FloatOps.maximumf x (constant S_ .f32 0xFF800000#32) reducesTo_S4096x144x1024_S4096x144_d2 h_S_
/-- scaled, and zero on the rows that are no query. -/
def masked (x : FVec Ideal S144x4096 .f32) : FVec Ideal S6x24x4096 .f32 :=
  select (broadcastInDim S6x24x4096 ![0, 1, 2] bcast_S6x24x1_S6x24x4096_0_1_2 (res_main_v130 V)) (mulf (shapeCast _ x shapeCasts_S144x4096_S6x24x4096) (broadcastInDim S6x24x4096 ![0, 1, 2] bcast_S6x24x1_S6x24x4096_0_1_2 (broadcastInDim S6x24x1 ![0, 1] bcast_S6x24_S6x24x1_0_1 (res_main_v54 V)))) (broadcastInDim S6x24x4096 ![] bcast_S_S6x24x4096 (id (constant S_ .f32 0x00000000#32)))
/-- The reference's scores. -/
def refBest : FVec Ideal S6x24x4096 .f32 :=
  masked V (transpose S144x4096 [1, 0] (maxes (sims (res_main_v64 V) (signs (words V)) (scales V))) transposes_S4096x144_S144x4096_1_0)

/-- The first columns' words, their signs and similarities. -/
def signs1 : FVec Ideal S128x4096 .bf16 :=
  shapeCast _ (shapeCast _ (truncf (F := Ideal) .bf16 (select (cmpi .eq (andi (Host.shrsi (broadcastInDim S1x4x32x4096 ![0, 1, 2, 3] bcast_S1x4x1x4096_S1x4x32x4096_0_1_2_3 (broadcastInDim S1x4x1x4096 ![0, 1, 3] bcast_S1x4x4096_S1x4x1x4096_0_1_3 (broadcastInDim S1x4x4096 ![1, 2] bcast_S4x4096_S1x4x4096_1_2 (transpose S4x4096 [1, 0] (res_main_v66 V) transposes_S4096x4_S4x4096_1_0)))) (broadcastInDim S1x4x32x4096 ![0, 1, 2, 3] bcast_S1x1x32x1_S1x4x32x4096_0_1_2_3 (broadcastInDim S1x1x32x1 ![2, 3] bcast_S32x1_S1x1x32x1_2_3 (broadcastInDim S32x1 ![0] bcast_S32_S32x1_0 (iotaInDim S32 32 0))))) (broadcastInDim S1x4x32x4096 ![] bcast_S_S1x4x32x4096 (constantI S_ 32 1#32))) (broadcastInDim S1x4x32x4096 ![] bcast_S_S1x4x32x4096 (constantI S_ 32 1#32))) (broadcastInDim S1x4x32x4096 ![] bcast_S_S1x4x32x4096 (constant S_ .f32 0x3F800000#32)) (broadcastInDim S1x4x32x4096 ![] bcast_S_S1x4x32x4096 (constant S_ .f32 0xBF800000#32))) bitsLt_bf16_f32) shapeCasts_S1x4x32x4096_S1x128x4096) shapeCasts_S1x128x4096_S128x4096
def sims1 (q : FVec Ideal S144x128 .bf16) (sg : FVec Ideal S128x4096 .bf16) : FVec Ideal S144x4096 .f32 :=
  mulf (Host.dotGeneral dot_S144x128_S128x4096_S144x4096_1_0_0_1_n_n none q sg) (broadcastInDim S144x4096 ![0, 1] bcast_S1x4096_S144x4096_0_1 (broadcastInDim S1x4096 ![1] bcast_S4096_S1x4096_1 (res_main_v68 V)))
/-- The reference's scores of the first columns. -/
def refFirst : FVec Ideal S6x24x4096 .f32 := masked V (sims1 V (res_main_v64 V) (signs1 V))

/-! ## Each part at an index -/

/-- A bit of a word chosen between the two signs. -/
theorem sgn_sel (w : BitVec 32) (k : ℕ) (hk : k < 32) :
    Scalar.select (IntOp.cmpi .eq (IntOp.andi (IntOp.shrsi .host w (BitVec.ofNat 32 k)) 1#32) 1#32) (1 : EReal) (Ideal.ofBits .f32 0xBF800000#32) = Page.sgn w k := by
  rw [← Page.sgn_select w k hk, Page.ofBits_pos_one]

theorem v66_apply (p : Fin 4096) (b : Fin 4) : res_main_v66 V (ix2 p b) = aWords V (ix3 p b 0) := by
  unfold res_main_v66
  clean_types
  pointwise
theorem v68_apply (p : Fin 4096) : res_main_v68 V (Idealize.ShloMosaic.ix1 p) = aScale V (ix2 p 0) := by
  unfold res_main_v68
  clean_types
  pointwise
theorem v96_apply (p : Fin 4096) (l : Fin 1024) : res_main_v96 V (ix2 p l) = BitVec.ofBool (decide ((l.val : ℤ) < (aPages V (Idealize.ShloMosaic.ix1 p)).toInt)) := by
  unfold res_main_v96
  clean_types
  pointwise
  exact Page.cmp_slt l.val (by omega) _
theorem v130_apply (b : Fin 6) (t : Fin 24) : res_main_v130 V (ix3 b t 0) = IntOp.cmpi .slt (BitVec.ofNat 32 t.val) (aLen V (Idealize.ShloMosaic.ix1 b)) := by
  unfold res_main_v130
  clean_types
  pointwise
theorem words_apply (p : Fin 4096) (b : Fin 4) (l : Fin 1024) :
    words V (ix3 p b l) = if (l.val : ℤ) < (aPages V (Idealize.ShloMosaic.ix1 p)).toInt then aWords V (ix3 p b l) else aWords V (ix3 p b 0) := by
  unfold words
  clean_types
  pointwise
  rw [v96_apply, v66_apply, Page.select_ofBool]
theorem scales_apply (p : Fin 4096) (l : Fin 1024) :
    scales V (ix2 p l) = if (l.val : ℤ) < (aPages V (Idealize.ShloMosaic.ix1 p)).toInt then aScale V (ix2 p l) else aScale V (ix2 p 0) := by
  unfold scales
  clean_types
  pointwise
  rw [v96_apply, v68_apply, Page.select_ofBool]
theorem signs_apply (w : Vec Ideal S4096x4x1024 .i32) (p : Fin 4096) (x : Fin 128) (l : Fin 1024) :
    signs w (ix3 p x l) = Page.sgn (w (ix3 p ⟨x.val / 32, by omega⟩ l)) (x.val % 32) := by
  unfold signs
  clean_types
  pointwise
  exact sgn_sel _ _ (Nat.mod_lt _ (by norm_num))
theorem sims_apply (q : FVec Ideal S144x128 .bf16) (sg : FVec Ideal S4096x128x1024 .bf16) (s : FVec Ideal S4096x1024 .f32) (p : Fin 4096) (r : Fin 144) (l : Fin 1024) :
    sims q sg s (ix3 p r l) = (∑ x : Fin 128, q (ix2 r x) * sg (ix3 p x l)) * s (ix2 p l) := by
  unfold sims
  clean_types
  pointwise
theorem maxes_apply (x : FVec Ideal S4096x144x1024 .f32) (p : Fin 4096) (r : Fin 144) :
    maxes x (ix2 p r) = Finset.univ.fold max ⊥ fun l : Fin 1024 => x (ix3 p r l) := by
  unfold maxes
  clean_types
  pointwise
  rw [Page.ofBits_bot]
theorem signs1_apply (x : Fin 128) (p : Fin 4096) :
    signs1 V (ix2 x p) = Page.sgn (aWords V (ix3 p ⟨x.val / 32, by omega⟩ 0)) (x.val % 32) := by
  unfold signs1
  clean_types
  pointwise
  rw [v66_apply]
  exact sgn_sel _ _ (Nat.mod_lt _ (by norm_num))
theorem sims1_apply (q : FVec Ideal S144x128 .bf16) (sg : FVec Ideal S128x4096 .bf16) (r : Fin 144) (p : Fin 4096) :
    sims1 V q sg (ix2 r p) = (∑ x : Fin 128, q (ix2 r x) * sg (ix2 x p)) * aScale V (ix2 p 0) := by
  unfold sims1
  clean_types
  pointwise
  rw [v68_apply]

end Cert.Scores
end
-- ==== Proof.Value.Compare.lean ====
/-
  The kernel's scores are the reference's: rows flattened, codes as numbers, and the maximum over a page's valid columns.
-/
module

public import proofs.«01_k».proof.Proof.Value.Project
public import proofs.«01_k».proof.Proof.Value.Scores

@[expose] public section

set_option maxRecDepth 16384

noncomputable section

namespace Cert.Scores

open Cert.ReferenceIdeal Cert.ReferenceIdeal.Gen Cert.ReferenceIdeal.Value Cert.Rows
open Cert.KernelIdeal.Own (kOk kQ kQs)
open Idealize.ShloMosaic Idealize.ShloMosaic.TcCoe Idealize.SL.Sem

variable (V : Valuation τ sig (Elt Ideal))

/-- Masking at an index: the row's valid bit between the scaled score and zero. -/
theorem masked_apply (x : FVec Ideal S144x4096 .f32) (b : Fin 6) (t : Fin 24) (p : Fin 4096) :
    masked V x (ix3 b t p) = Scalar.select (IntOp.cmpi .slt (BitVec.ofNat 32 t.val) (aLen V (Idealize.ShloMosaic.ix1 b)))
      (x (ix2 (row b t) p) * res_main_v54 V (ix2 b t)) (0 : EReal) := by
  unfold masked row
  clean_types
  pointwise
  rw [v130_apply, show id (constant (F := Ideal) S_ FTy.f32 0x00000000#32) ix0 = (0 : EReal) from Ideal.ofBits_zero_f32]

/-- A bit widened and compared with zero is the bit. -/
theorem bit_pos : ∀ x : BitVec 1, IntOp.cmpi .sgt (x.setWidth 32) 0#32 = x := by decide

/-- The kernel's row mask is the reference's. -/
theorem ok_apply (n : Vec Ideal Cert.KernelIdeal.S6 .i32) (b : Fin 6) (t : Fin 24) :
    IntOp.cmpi .sgt (kOk n (ix2 (row b t) 0)) 0#32 = IntOp.cmpi .slt (BitVec.ofNat 32 t.val) (n (Idealize.ShloMosaic.ix1 b)) := by
  unfold kOk row
  pointwise
  exact bit_pos _

/-- The reference's best column of page `p` for row `(b, t)`. -/
theorem best_ref (hN : ∀ p : Fin 4096, 1 ≤ (aPages V (Idealize.ShloMosaic.ix1 p)).toInt) (b : Fin 6) (t : Fin 24) (p : Fin 4096) :
    maxes (sims (res_main_v64 V) (signs (words V)) (scales V)) (ix2 p (row b t))
      = Page.best (fun x => kQ (aX V) (aG V) (aW V) (aWs V) (aB V) (ix2 (row b t) x)) (fun l c => aWords V (ix3 p c l)) (fun l => aScale V (ix2 p l))
          (aPages V (Idealize.ShloMosaic.ix1 p)) := by
  rw [maxes_apply]
  unfold Page.best
  rw [← fold_pad _ _ (hN p)]
  congr 1
  funext l
  rw [sims_apply, scales_apply]
  simp only [signs_apply, words_apply, qwide_ref]
  by_cases h : (l.val : ℤ) < (aPages V (Idealize.ShloMosaic.ix1 p)).toInt
  · simp only [if_pos h]; rfl
  · simp only [if_neg h]; rfl

/-- The reference's first column likewise. -/
theorem first_ref (b : Fin 6) (t : Fin 24) (p : Fin 4096) :
    sims1 V (res_main_v64 V) (signs1 V) (ix2 (row b t) p)
      = Page.sim (fun x => kQ (aX V) (aG V) (aW V) (aWs V) (aB V) (ix2 (row b t) x)) (fun c => aWords V (ix3 p c 0)) (aScale V (ix2 p 0)) := by
  rw [sims1_apply]
  simp only [signs1_apply, qwide_ref]
  rfl

/-- Reading a flattened array, and one turned. -/
theorem flat_apply (x : FVec Ideal Cert.KernelIdeal.S144x4096 .f32) (b : Fin 6) (t : Fin 24) (p : Fin 4096) :
    shapeCast Cert.KernelIdeal.S6x24x4096 x Cert.KernelIdeal.Gen.shapeCasts_S144x4096_S6x24x4096 (ix3 b t p) = x (ix2 (row b t) p) := by
  unfold row
  pointwise
theorem turn_apply (x : FVec Ideal S4096x144 .f32) (r : Fin 144) (p : Fin 4096) :
    transpose S144x4096 [1, 0] x transposes_S4096x144_S144x4096_1_0 (ix2 r p) = x (ix2 p r) := by
  pointwise

/-- The kernel's scores, rows flattened, are the reference's. -/
theorem best_eq (hN : ∀ p : Fin 4096, 1 ≤ (aPages V (Idealize.ShloMosaic.ix1 p)).toInt) :
    shapeCast Cert.KernelIdeal.S6x24x4096 (Cert.KernelIdeal.Own.Score.bestArr (kQ (aX V) (aG V) (aW V) (aWs V) (aB V)) (kQs (aX V) (aG V) (aW V) (aWs V) (aB V))
      (kOk (aLen V)) (aWords V) (aScale V) (aPages V)) Cert.KernelIdeal.Gen.shapeCasts_S144x4096_S6x24x4096 = refBest V := by
  funext j
  idx_vars j
  refine (Cert.Scores.flat_apply _ j0 j1 j2).trans ?_
  unfold refBest
  rw [masked_apply, Cert.Scores.turn_apply, best_ref V hN, ← qscale_eq]
  unfold Cert.KernelIdeal.Own.Score.bestArr
  rw [← ok_apply]
  rfl

/-- So are the first columns'. -/
theorem first_eq :
    shapeCast Cert.KernelIdeal.S6x24x4096 (Cert.KernelIdeal.Own.Score.firstArr (kQ (aX V) (aG V) (aW V) (aWs V) (aB V)) (kQs (aX V) (aG V) (aW V) (aWs V) (aB V))
      (kOk (aLen V)) (aWords V) (aScale V)) Cert.KernelIdeal.Gen.shapeCasts_S144x4096_S6x24x4096 = refFirst V := by
  funext j
  idx_vars j
  refine (Cert.Scores.flat_apply _ j0 j1 j2).trans ?_
  unfold refFirst
  rw [masked_apply, first_ref V, ← qscale_eq]
  unfold Cert.KernelIdeal.Own.Score.firstArr
  rw [← ok_apply]
  rfl

end Cert.Scores
end
-- ==== Proof.Value.Totals.lean ====
/-
  The statistics over the scores: their sums over a query's rows, and each query's mean and log-sum-exp over the pages.
-/
module

public import proofs.«01_k».proof.Proof.Value.Scores

@[expose] public section

set_option maxRecDepth 16384

noncomputable section

namespace Cert.Totals

open Cert.ReferenceIdeal Cert.ReferenceIdeal.Gen Cert.ReferenceIdeal.Value Cert.Scores
open Cert.KernelIdeal.Gen (k2_pay1 k2_pay2 k2_pay3)
open Idealize.ShloMosaic Idealize.ShloMosaic.TcCoe Idealize.SL.Sem

variable (V : Valuation τ sig (Elt Ideal))

/-- The reference's temperatures. -/
abbrev aTau : Vec Ideal S6 .f32 := V (Proc.devRef .tc main_arg5)

/-- The kernel's sums over the 24 rows are the reference's, -/
theorem scores_eq : k2_pay1 (F := Ideal) (refBest V) = res_main_v139 V := by
  have h : res_main_v139 V = Host.reduceAdd (refBest V) (constant S_ .f32 0x00000000#32) reducesTo_S6x24x4096_S6x4096_d1 h_S_ := rfl
  rw [h]
  generalize refBest V = x
  funext j
  idx_vars j
  clean_types
  pointwise [k2_pay1]

/-- so are the means over the pages, -/
theorem mean_eq : shapeCast Cert.KernelIdeal.S6 (k2_pay2 (F := Ideal) (refBest V)) Cert.KernelIdeal.Gen.shapeCasts_S6x1_S6
    = Host.divf (F := Ideal) (Host.reduceAdd (res_main_v139 V) (constant S_ .f32 0x00000000#32) reducesTo_S6x4096_S6_d1 h_S_) (broadcastInDim S6 ![] bcast_S_S6 (constant S_ .f32 0x45800000#32)) := by
  rw [← scores_eq]
  generalize refBest V = x
  funext j
  idx_vars j
  clean_types
  pointwise [k2_pay2]

/-- the scores over the temperature, and their maximum, -/
theorem z_apply (b : Fin 6) (p : Fin 4096) : res_main_v145 V (ix2 b p) = Ideal.div (k2_pay1 (F := Ideal) (refBest V) (ix2 b p)) (aTau V (Idealize.ShloMosaic.ix1 b)) := by
  unfold res_main_v145
  rw [← scores_eq]
  clean_types
  pointwise
theorem zmax_apply (b : Fin 6) : res_main_v146 V (Idealize.ShloMosaic.ix1 b) = Finset.univ.fold max (⊥ : EReal) fun p : Fin 4096 => (res_main_v145 V (ix2 b p) : EReal) := by
  unfold res_main_v146
  clean_types
  pointwise
  rw [Page.ofBits_bot]

/-- and the log-sum-exps. -/
theorem lse_eq : shapeCast Cert.KernelIdeal.S6 (k2_pay3 (F := Ideal) (refBest V) (broadcastInDim Cert.KernelIdeal.S6x1 ![0] Cert.KernelIdeal.Gen.bcast_S6_S6x1_0 (aTau V))) Cert.KernelIdeal.Gen.shapeCasts_S6x1_S6
    = addf (F := Ideal) (res_main_v146 V) (Host.log (Host.reduceAdd (Host.exp (subf (res_main_v145 V) (broadcastInDim S6x4096 ![0, 1] bcast_S6x1_S6x4096_0_1 (broadcastInDim S6x1 ![0] bcast_S6_S6x1_0 (res_main_v146 V))))) (constant S_ .f32 0x00000000#32) reducesTo_S6x4096_S6_d1 h_S_)) := by
  funext j
  idx_vars j
  clean_types
  pointwise [k2_pay3]
  simp only [zmax_apply, z_apply]
  rw [Page.ofBits_bot]

end Cert.Totals
end
-- ==== Proof.Value.Agree.lean ====
/-
  From memories agreeing on the arguments, every result the kernel leaves is the reference's.
-/
module

public import proofs.«01_k».proof.Proof.Value.Results
public import proofs.«01_k».proof.Proof.Value.Compare
public import proofs.«01_k».proof.Proof.Value.Totals

@[expose] public section

set_option maxRecDepth 16384

noncomputable section

namespace Cert.Agree

open Cert.ReferenceIdeal.Value Cert.Rows Cert.Scores Cert.Totals
open Cert.KernelIdeal.Own
open Idealize.ShloMosaic Idealize.ShloMosaic.TcCoe Idealize.SL.Sem

/-- The reference's valuation `V` and the kernel's memory `m` hold the same arguments on device `c`. -/
structure Args (V : Valuation Cert.ReferenceIdeal.τ Cert.ReferenceIdeal.sig (Elt Ideal)) (m : (ℓ : Loc Cert.KernelIdeal.nD Cert.KernelIdeal.τ Cert.KernelIdeal.sig) → Buf (Elt Ideal) ℓ)
    (c : Dev Cert.KernelIdeal.nD) : Prop where
  a0 : m ((c.tc : Thread Cert.KernelIdeal.nD Cert.KernelIdeal.τ).loc Cert.KernelIdeal.main_arg0) = aX V
  a1 : m ((c.tc : Thread Cert.KernelIdeal.nD Cert.KernelIdeal.τ).loc Cert.KernelIdeal.main_arg1) = aG V
  a2 : m ((c.tc : Thread Cert.KernelIdeal.nD Cert.KernelIdeal.τ).loc Cert.KernelIdeal.main_arg2) = aW V
  a3 : m ((c.tc : Thread Cert.KernelIdeal.nD Cert.KernelIdeal.τ).loc Cert.KernelIdeal.main_arg3) = aWs V
  a4 : m ((c.tc : Thread Cert.KernelIdeal.nD Cert.KernelIdeal.τ).loc Cert.KernelIdeal.main_arg4) = aB V
  a5 : m ((c.tc : Thread Cert.KernelIdeal.nD Cert.KernelIdeal.τ).loc Cert.KernelIdeal.main_arg5) = aTau V
  a6 : m ((c.tc : Thread Cert.KernelIdeal.nD Cert.KernelIdeal.τ).loc Cert.KernelIdeal.main_arg6) = aLen V
  a7 : m ((c.tc : Thread Cert.KernelIdeal.nD Cert.KernelIdeal.τ).loc Cert.KernelIdeal.main_arg7) = aWords V
  a8 : m ((c.tc : Thread Cert.KernelIdeal.nD Cert.KernelIdeal.τ).loc Cert.KernelIdeal.main_arg8) = aScale V
  a9 : m ((c.tc : Thread Cert.KernelIdeal.nD Cert.KernelIdeal.τ).loc Cert.KernelIdeal.main_arg9) = aPages V

variable {V : Valuation Cert.ReferenceIdeal.τ Cert.ReferenceIdeal.sig (Elt Ideal)} {m : (ℓ : Loc Cert.KernelIdeal.nD Cert.KernelIdeal.τ Cert.KernelIdeal.sig) → Buf (Elt Ideal) ℓ}
  {c : Dev Cert.KernelIdeal.nD} (h : Args V m c)
include h

/-! ## The encoder's results -/

/-- The projected rows are the reference's. -/
theorem y : W7 m c (Proc.devRef .tc Cert.KernelIdeal.main_v21) = res_main_v41 V := by
  rw [W7_v21, W2_v4_2, h.a0, h.a1, h.a2, h.a3, h.a4]; exact y_all V
/-- The normalised embeddings are the reference's. -/
theorem e : W7 m c (Proc.devRef .tc Cert.KernelIdeal.main_v20) = res_main_v47 V := by
  rw [W7_v20, W2_v4_3, h.a0, h.a1, h.a2, h.a3, h.a4]; exact e_all V
/-- The activations' scales are the reference's. -/
theorem scale : W7 m c (Proc.devRef .tc Cert.KernelIdeal.main_v23) = res_main_v20 V := by
  rw [W7_v23, W2_v4_1, h.a0, h.a1]; exact scale_all V
/-- The queries' scales are the reference's. -/
theorem qscale : W7 m c (Proc.devRef .tc Cert.KernelIdeal.main_v25) = res_main_v54 V := by
  rw [W7_v25, W2_v4_5, h.a0, h.a1, h.a2, h.a3, h.a4]; exact qscale_all V
/-- The activations' codes, as the encoder's formula at the reference's arguments. -/
theorem codes : W7 m c (Proc.devRef .tc Cert.KernelIdeal.main_v22)
    = shapeCast Cert.KernelIdeal.S6x24x2048 (kCodes (aX V) (aG V)) Cert.KernelIdeal.Gen.shapeCasts_S144x2048_S6x24x2048 := by
  rw [W7_v22, W2_v4_0, h.a0, h.a1]
/-- The queries' codes, as the encoder's formula at the reference's arguments. -/
theorem qcodes : W7 m c (Proc.devRef .tc Cert.KernelIdeal.main_v24)
    = shapeCast Cert.KernelIdeal.S6x24x128 (kQ (aX V) (aG V) (aW V) (aWs V) (aB V)) Cert.KernelIdeal.Gen.shapeCasts_S144x128_S6x24x128 := by
  rw [W7_v24, W2_v4_4, h.a0, h.a1, h.a2, h.a3, h.a4]

/-! ## The scores -/

/-- The array of best scores the score kernel fills is the reference's, when every page has a column. -/
theorem best (hN : ∀ p : Fin 4096, 1 ≤ (aPages V (Idealize.ShloMosaic.ix1 p)).toInt) :
    shapeCast Cert.KernelIdeal.S6x24x4096 (kBest m c) Cert.KernelIdeal.Gen.shapeCasts_S144x4096_S6x24x4096 = refBest V := by
  unfold kBest
  rw [W2_v4_4, W2_v4_5, h.a0, h.a1, h.a2, h.a3, h.a4, h.a6, h.a7, h.a8, h.a9]
  exact best_eq V hN
/-- The result `maxsim` is the reference's, when every page has a column. -/
theorem maxsim (hN : ∀ p : Fin 4096, 1 ≤ (aPages V (Idealize.ShloMosaic.ix1 p)).toInt) : W7 m c (Proc.devRef .tc Cert.KernelIdeal.main_v14) = refBest V :=
  (W7_v14 m c).trans (best h hN)
/-- The first column's scores are the reference's, whatever the page lengths. -/
theorem first : W7 m c (Proc.devRef .tc Cert.KernelIdeal.main_v15) = refFirst V := by
  rw [W7_v15]
  unfold kFirst
  rw [W2_v4_4, W2_v4_5, h.a0, h.a1, h.a2, h.a3, h.a4, h.a6, h.a7, h.a8]
  exact first_eq V

/-! ## The statistics -/

/-- The sums over the tokens are the reference's. -/
theorem scores (hN : ∀ p : Fin 4096, 1 ≤ (aPages V (Idealize.ShloMosaic.ix1 p)).toInt) : W7 m c (Proc.devRef .tc Cert.KernelIdeal.main_v17_0) = res_main_v139 V := by
  rw [W7_v17_0, best h hN]; exact scores_eq V
/-- The mean over the pages, as the last kernel's formula at the reference's best scores. -/
theorem mean (hN : ∀ p : Fin 4096, 1 ≤ (aPages V (Idealize.ShloMosaic.ix1 p)).toInt) : W7 m c (Proc.devRef .tc Cert.KernelIdeal.main_v19)
    = shapeCast Cert.KernelIdeal.S6 (Cert.KernelIdeal.Gen.k2_pay2 (F := Ideal) (refBest V)) Cert.KernelIdeal.Gen.shapeCasts_S6x1_S6 := by
  rw [W7_v19, best h hN]
/-- The log-sum-exp over the pages, as the last kernel's formula at the reference's best scores. -/
theorem lse (hN : ∀ p : Fin 4096, 1 ≤ (aPages V (Idealize.ShloMosaic.ix1 p)).toInt) : W7 m c (Proc.devRef .tc Cert.KernelIdeal.main_v18)
    = shapeCast Cert.KernelIdeal.S6 (Cert.KernelIdeal.Gen.k2_pay3 (F := Ideal) (refBest V)
        (broadcastInDim Cert.KernelIdeal.S6x1 ![0] Cert.KernelIdeal.Gen.bcast_S6_S6x1_0 (aTau V))) Cert.KernelIdeal.Gen.shapeCasts_S6x1_S6 := by
  rw [W7_v18, best h hN, h.a5]

end Cert.Agree
end
-- ==== Proof.lean ====
/-
  The proof of `Cert.Claim`: the runs of the kernel, of its idealization and of the reference, each leaving its arguments as
  they were, and the idealization's eleven results the reference's.
-/
module

public import proofs.«01_k».proof.Defs
public import proofs.«01_k».proof.Proof.Kernel.Run
public import proofs.«01_k».proof.Proof.Value.Agree
public import Idealize.ShloMosaic.Adequacy
public import Idealize.ShloMosaic.Init

@[expose] public section

set_option maxRecDepth 16384

noncomputable section

namespace Cert.Proof

open Idealize.ShloMosaic Idealize.SL.Sem

/-- The kernel runs at its words, leaves its arguments and ends with every counter at zero. -/
theorem frame_p : Cert.quiescent_Kernel := fun m ρ _ =>
  (θ_run (Cert.Kernel.defs (F := Bits)) _ _).mono (fun _ h => ⟨fun c => ⟨
        (h.1 c Cert.Kernel.main_arg0 rfl).trans (Cert.Kernel.Own.W7_keeps m c Cert.Kernel.main_arg0 (by decide)),
        (h.1 c Cert.Kernel.main_arg1 rfl).trans (Cert.Kernel.Own.W7_keeps m c Cert.Kernel.main_arg1 (by decide)),
        (h.1 c Cert.Kernel.main_arg2 rfl).trans (Cert.Kernel.Own.W7_keeps m c Cert.Kernel.main_arg2 (by decide)),
        (h.1 c Cert.Kernel.main_arg3 rfl).trans (Cert.Kernel.Own.W7_keeps m c Cert.Kernel.main_arg3 (by decide)),
        (h.1 c Cert.Kernel.main_arg4 rfl).trans (Cert.Kernel.Own.W7_keeps m c Cert.Kernel.main_arg4 (by decide)),
        (h.1 c Cert.Kernel.main_arg5 rfl).trans (Cert.Kernel.Own.W7_keeps m c Cert.Kernel.main_arg5 (by decide)),
        (h.1 c Cert.Kernel.main_arg6 rfl).trans (Cert.Kernel.Own.W7_keeps m c Cert.Kernel.main_arg6 (by decide)),
        (h.1 c Cert.Kernel.main_arg7 rfl).trans (Cert.Kernel.Own.W7_keeps m c Cert.Kernel.main_arg7 (by decide)),
        (h.1 c Cert.Kernel.main_arg8 rfl).trans (Cert.Kernel.Own.W7_keeps m c Cert.Kernel.main_arg8 (by decide)),
        (h.1 c Cert.Kernel.main_arg9 rfl).trans (Cert.Kernel.Own.W7_keeps m c Cert.Kernel.main_arg9 (by decide))⟩, h.2⟩)
    (Cert.Kernel.Own.run (F := Bits) m ρ)

/-- So does its idealization, at the extended reals, -/
theorem frame_pi : Cert.quiescent_KernelIdeal := fun m ρ _ =>
  (θ_run (Cert.KernelIdeal.defs (F := Ideal)) _ _).mono (fun _ h => ⟨fun c => ⟨
        (h.1 c Cert.KernelIdeal.main_arg0 rfl).trans (Cert.KernelIdeal.Own.W7_keeps m c Cert.KernelIdeal.main_arg0 (by decide)),
        (h.1 c Cert.KernelIdeal.main_arg1 rfl).trans (Cert.KernelIdeal.Own.W7_keeps m c Cert.KernelIdeal.main_arg1 (by decide)),
        (h.1 c Cert.KernelIdeal.main_arg2 rfl).trans (Cert.KernelIdeal.Own.W7_keeps m c Cert.KernelIdeal.main_arg2 (by decide)),
        (h.1 c Cert.KernelIdeal.main_arg3 rfl).trans (Cert.KernelIdeal.Own.W7_keeps m c Cert.KernelIdeal.main_arg3 (by decide)),
        (h.1 c Cert.KernelIdeal.main_arg4 rfl).trans (Cert.KernelIdeal.Own.W7_keeps m c Cert.KernelIdeal.main_arg4 (by decide)),
        (h.1 c Cert.KernelIdeal.main_arg5 rfl).trans (Cert.KernelIdeal.Own.W7_keeps m c Cert.KernelIdeal.main_arg5 (by decide)),
        (h.1 c Cert.KernelIdeal.main_arg6 rfl).trans (Cert.KernelIdeal.Own.W7_keeps m c Cert.KernelIdeal.main_arg6 (by decide)),
        (h.1 c Cert.KernelIdeal.main_arg7 rfl).trans (Cert.KernelIdeal.Own.W7_keeps m c Cert.KernelIdeal.main_arg7 (by decide)),
        (h.1 c Cert.KernelIdeal.main_arg8 rfl).trans (Cert.KernelIdeal.Own.W7_keeps m c Cert.KernelIdeal.main_arg8 (by decide)),
        (h.1 c Cert.KernelIdeal.main_arg9 rfl).trans (Cert.KernelIdeal.Own.W7_keeps m c Cert.KernelIdeal.main_arg9 (by decide))⟩, h.2⟩)
    (Cert.KernelIdeal.Own.run (F := Ideal) m ρ)

/-- and the reference. -/
theorem frame_ri : Cert.quiescent_ReferenceIdeal := fun m ρ _ =>
  (θ_run (Cert.ReferenceIdeal.defs (F := Ideal)) _ _).mono
    (fun r h => ⟨fun c => (h c).2.2.2.2.2.2.2.2.2.2.2, Idealize.ShloMosaic.sem_eq_zero_of_no_sems (by decide) r.2⟩)
    (Cert.ReferenceIdeal.Value.run (F := Ideal) m ρ)

/-- The side condition the precondition's function states. -/
theorem pre_facts : Cert.Pre_pages_not_empty.Facts := ⟨by decide⟩

/-- The idealization's run claimed under the precondition is the one above; -/
theorem frame_pi_pre : Cert.quiescent_KernelIdeal_pre_pages_not_empty (hPre_pages_not_empty := pre_facts) := fun m ρ _ => frame_pi m ρ trivial
/-- so is the reference's. -/
theorem frame_ri_pre : Cert.quiescent_ReferenceIdeal_pre_pages_not_empty (hPre_pages_not_empty := pre_facts) := fun m ρ _ => frame_ri m ρ trivial

/-- The precondition read: every page has a column. -/
theorem pages_long (m : (ℓ : Loc Cert.KernelIdeal.nD Cert.KernelIdeal.τ Cert.KernelIdeal.sig) → Buf (Elt Ideal) ℓ)
    (hp : Cert.Pre_KernelIdeal_pages_not_empty (hPre_pages_not_empty := pre_facts) m) (c : Dev Cert.KernelIdeal.nD) (p : Fin 4096) :
    1 ≤ ((m ((c.tc : Thread Cert.KernelIdeal.nD Cert.KernelIdeal.τ).loc Cert.KernelIdeal.main_arg9) : Vec Ideal Cert.KernelIdeal.S4096 .i32) (ix1 p)).toInt := by
  have h : IntOp.cmpi .sge ((m ((c.tc : Thread Cert.KernelIdeal.nD Cert.KernelIdeal.τ).loc Cert.KernelIdeal.main_arg9) : Vec Ideal Cert.KernelIdeal.S4096 .i32) (ix1 p)) 1#32 = 1#1 :=
    congrFun (hp c) (ix1 p)
  generalize ((m ((c.tc : Thread Cert.KernelIdeal.nD Cert.KernelIdeal.τ).loc Cert.KernelIdeal.main_arg9) : Vec Ideal Cert.KernelIdeal.S4096 .i32) (ix1 p)) = w at h ⊢
  have h' : BitVec.ofBool (BitVec.sle 1#32 w) = 1#1 := h
  cases hs : BitVec.sle 1#32 w
  · rw [hs] at h'; exact absurd h' (by decide)
  · simpa [BitVec.sle] using hs

/-- The idealization's results are the reference's. -/
theorem algebraic : Cert.algebraic_KernelIdeal_ReferenceIdeal_pre_pages_not_empty (hPre_pages_not_empty := pre_facts) := fun m ρ m' ρ' hp ha => by
  have agree : ∀ c : Dev Cert.KernelIdeal.nD, Cert.Agree.Args (StableHlo.launchContents m' c) m c := fun c =>
    ⟨(ha c).1.symm, (ha c).2.1.symm, (ha c).2.2.1.symm, (ha c).2.2.2.1.symm, (ha c).2.2.2.2.1.symm, (ha c).2.2.2.2.2.1.symm,
      (ha c).2.2.2.2.2.2.1.symm, (ha c).2.2.2.2.2.2.2.1.symm, (ha c).2.2.2.2.2.2.2.2.1.symm, (ha c).2.2.2.2.2.2.2.2.2.symm⟩
  have long : ∀ (c : Dev Cert.KernelIdeal.nD) (p : Fin 4096), 1 ≤ (Cert.Scores.aPages (StableHlo.launchContents m' c) (ix1 p)).toInt := fun c p => by
    have h := pages_long m hp c p
    rw [(agree c).a9] at h
    exact h
  refine ⟨fun c => Cert.KernelIdeal.Own.W7 m c (Proc.devRef .tc Cert.KernelIdeal.main_v17_0),
    fun c => Cert.KernelIdeal.Own.W7 m c (Proc.devRef .tc Cert.KernelIdeal.main_v18),
    fun c => Cert.KernelIdeal.Own.W7 m c (Proc.devRef .tc Cert.KernelIdeal.main_v19),
    fun c => Cert.KernelIdeal.Own.W7 m c (Proc.devRef .tc Cert.KernelIdeal.main_v14),
    fun c => Cert.KernelIdeal.Own.W7 m c (Proc.devRef .tc Cert.KernelIdeal.main_v20),
    fun c => Cert.KernelIdeal.Own.W7 m c (Proc.devRef .tc Cert.KernelIdeal.main_v21),
    fun c => Cert.KernelIdeal.Own.W7 m c (Proc.devRef .tc Cert.KernelIdeal.main_v15),
    fun c => Cert.KernelIdeal.Own.W7 m c (Proc.devRef .tc Cert.KernelIdeal.main_v22),
    fun c => Cert.KernelIdeal.Own.W7 m c (Proc.devRef .tc Cert.KernelIdeal.main_v23),
    fun c => Cert.KernelIdeal.Own.W7 m c (Proc.devRef .tc Cert.KernelIdeal.main_v24),
    fun c => Cert.KernelIdeal.Own.W7 m c (Proc.devRef .tc Cert.KernelIdeal.main_v25), ?_, ?_⟩
  · exact (θ_run (Cert.KernelIdeal.defs (F := Ideal)) _ _).mono (fun _ h c => ⟨
        h.1 c Cert.KernelIdeal.main_v17_0 rfl,
        h.1 c Cert.KernelIdeal.main_v18 rfl,
        h.1 c Cert.KernelIdeal.main_v19 rfl,
        h.1 c Cert.KernelIdeal.main_v14 rfl,
        h.1 c Cert.KernelIdeal.main_v20 rfl,
        h.1 c Cert.KernelIdeal.main_v21 rfl,
        h.1 c Cert.KernelIdeal.main_v15 rfl,
        h.1 c Cert.KernelIdeal.main_v22 rfl,
        h.1 c Cert.KernelIdeal.main_v23 rfl,
        h.1 c Cert.KernelIdeal.main_v24 rfl,
        h.1 c Cert.KernelIdeal.main_v25 rfl,
        (h.1 c Cert.KernelIdeal.main_arg0 rfl).trans (Cert.KernelIdeal.Own.W7_keeps m c Cert.KernelIdeal.main_arg0 (by decide)),
        (h.1 c Cert.KernelIdeal.main_arg1 rfl).trans (Cert.KernelIdeal.Own.W7_keeps m c Cert.KernelIdeal.main_arg1 (by decide)),
        (h.1 c Cert.KernelIdeal.main_arg2 rfl).trans (Cert.KernelIdeal.Own.W7_keeps m c Cert.KernelIdeal.main_arg2 (by decide)),
        (h.1 c Cert.KernelIdeal.main_arg3 rfl).trans (Cert.KernelIdeal.Own.W7_keeps m c Cert.KernelIdeal.main_arg3 (by decide)),
        (h.1 c Cert.KernelIdeal.main_arg4 rfl).trans (Cert.KernelIdeal.Own.W7_keeps m c Cert.KernelIdeal.main_arg4 (by decide)),
        (h.1 c Cert.KernelIdeal.main_arg5 rfl).trans (Cert.KernelIdeal.Own.W7_keeps m c Cert.KernelIdeal.main_arg5 (by decide)),
        (h.1 c Cert.KernelIdeal.main_arg6 rfl).trans (Cert.KernelIdeal.Own.W7_keeps m c Cert.KernelIdeal.main_arg6 (by decide)),
        (h.1 c Cert.KernelIdeal.main_arg7 rfl).trans (Cert.KernelIdeal.Own.W7_keeps m c Cert.KernelIdeal.main_arg7 (by decide)),
        (h.1 c Cert.KernelIdeal.main_arg8 rfl).trans (Cert.KernelIdeal.Own.W7_keeps m c Cert.KernelIdeal.main_arg8 (by decide)),
        (h.1 c Cert.KernelIdeal.main_arg9 rfl).trans (Cert.KernelIdeal.Own.W7_keeps m c Cert.KernelIdeal.main_arg9 (by decide))⟩) (Cert.KernelIdeal.Own.run (F := Ideal) m ρ)
  · exact (θ_run (Cert.ReferenceIdeal.defs (F := Ideal)) _ _).mono (fun r h c => ⟨
        (h c).1.trans ((Cert.Agree.scores (agree c) (long c)).symm),
        (h c).2.1.trans ((Cert.Totals.lse_eq _).symm.trans (Cert.Agree.lse (agree c) (long c)).symm),
        (h c).2.2.1.trans ((Cert.Totals.mean_eq _).symm.trans (Cert.Agree.mean (agree c) (long c)).symm),
        (h c).2.2.2.1.trans ((Cert.Agree.maxsim (agree c) (long c)).symm),
        (h c).2.2.2.2.1.trans ((Cert.Agree.e (agree c)).symm),
        (h c).2.2.2.2.2.1.trans ((Cert.Agree.y (agree c)).symm),
        (h c).2.2.2.2.2.2.1.trans ((Cert.Agree.first (agree c)).symm),
        (h c).2.2.2.2.2.2.2.1.trans ((Cert.Rows.codes_all _).symm.trans (Cert.Agree.codes (agree c)).symm),
        (h c).2.2.2.2.2.2.2.2.1.trans ((Cert.Agree.scale (agree c)).symm),
        (h c).2.2.2.2.2.2.2.2.2.1.trans ((Cert.Rows.qcodes_all _).symm.trans (Cert.Agree.qcodes (agree c)).symm),
        (h c).2.2.2.2.2.2.2.2.2.2.1.trans ((Cert.Agree.qscale (agree c)).symm),
        (h c).2.2.2.2.2.2.2.2.2.2.2⟩) (Cert.ReferenceIdeal.Value.run (F := Ideal) m' ρ')

/-- Everything claimed. -/
theorem claim : Cert.Claim :=
  ⟨Cert.Kernel.Gen.facts, Cert.KernelIdeal.Gen.facts, Cert.ReferenceIdeal.Gen.facts, pre_facts,
    frame_p, frame_pi, frame_pi_pre, frame_ri, frame_ri_pre, trivial, algebraic⟩

end Cert.Proof

end
